-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S2x1024x1024 : Shape := ⟨3, ![2, 1024, 1024]⟩
abbrev S128 : Shape := ⟨1, ![128]⟩
abbrev S2 : Shape := ⟨1, ![2]⟩
abbrev S_ : Shape := ⟨0, ![]⟩
abbrev S1 : Shape := ⟨1, ![1]⟩
abbrev S128x1024 : Shape := ⟨2, ![128, 1024]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S2x1024x1024, .f32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 260 → Bool
  | ⟨i, _⟩ => dmaSemScopedAt i

abbrev sig : RefSig :=
  (ofTc nBuf bufTy 1 260 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v27 : BitVec 32 := Scalar.muli v2 c4_i32_16
  let v28 : BitVec 32 := Scalar.addi c0_i32 v27
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_17 : BitVec 32 := 2#32
  let v29 : BitVec 32 := Scalar.muli v9 c2_i32_17
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v31 : BitVec 32 := Scalar.muli v8 c1_i32_18
  let v32 : BitVec 32 := Scalar.addi v30 v31
  v32.toNat
def k0_dev2 (d0 : Dev nD) : Nat :=
  let c0_i32_21 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_20 : BitVec 32 := 4#32
  let v33 : BitVec 32 := Scalar.muli v10 c4_i32_20
  let v34 : BitVec 32 := Scalar.addi c0_i32_21 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v35 : BitVec 32 := Scalar.muli v5 c2_i32_22
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v37 : BitVec 32 := Scalar.muli v8 c1_i32_23
  let v38 : BitVec 32 := Scalar.addi v36 v37
  v38.toNat
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v39 : BitVec 32 := Scalar.muli v2 c4_i32_25
  let v40 : BitVec 32 := Scalar.addi c0_i32_26 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v41 : BitVec 32 := Scalar.muli v5 c2_i32_27
  let v42 : BitVec 32 := Scalar.addi v40 v41
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_28 : BitVec 32 := 1#32
  let v43 : BitVec 32 := Scalar.muli v11 c1_i32_28
  let v44 : BitVec 32 := Scalar.addi v42 v43
  v44.toNat
def k0_off1 (d0 : Dev nD) (c0_i32_32 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32_30 : BitVec 32 := 16384#32
  let v47 : BitVec 32 := Scalar.muli v5 c16384_i32_30
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32_31 : BitVec 32 := 4096#32
  let v48 : BitVec 32 := Scalar.muli v13 c4096_i32_31
  let v49 : BitVec 32 := Scalar.addi v47 v48
  let v50 : BitVec 32 := Scalar.addi v49 c0_i32_32
  let c0_i32_39 : BitVec 32 := 0#32
  ![v50.toNat, 0]
def k0_off2 (d0 : Dev nD) (c0_i32_29 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v45 : BitVec 32 := Scalar.muli v13 c4096_i32
  let v46 : BitVec 32 := Scalar.addi v45 c0_i32_29
  let c0_i32_40 : BitVec 32 := 0#32
  ![v46.toNat, 0]
def k0_dev4 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v51 : BitVec 32 := Scalar.muli v2 c4_i32_35
  let v52 : BitVec 32 := Scalar.addi c0_i32_36 v51
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_37 : BitVec 32 := 2#32
  let v53 : BitVec 32 := Scalar.muli v9 c2_i32_37
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v55 : BitVec 32 := Scalar.muli v8 c1_i32_38
  let v56 : BitVec 32 := Scalar.addi v54 v55
  v56.toNat
def k0_dev5 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v69 : BitVec 32 := Scalar.muli v2 c4_i32_47
  let v70 : BitVec 32 := Scalar.addi c0_i32_48 v69
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_49 : BitVec 32 := 2#32
  let v71 : BitVec 32 := Scalar.muli v9 c2_i32_49
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.muli v8 c1_i32_50
  let v74 : BitVec 32 := Scalar.addi v72 v73
  v74.toNat
def k0_dev6 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v87 : BitVec 32 := Scalar.muli v2 c4_i32_59
  let v88 : BitVec 32 := Scalar.addi c0_i32_60 v87
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_61 : BitVec 32 := 2#32
  let v89 : BitVec 32 := Scalar.muli v9 c2_i32_61
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v91 : BitVec 32 := Scalar.muli v8 c1_i32_62
  let v92 : BitVec 32 := Scalar.addi v90 v91
  v92.toNat
def k0_dev7 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v105 : BitVec 32 := Scalar.muli v2 c4_i32_71
  let v106 : BitVec 32 := Scalar.addi c0_i32_72 v105
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_73 : BitVec 32 := 2#32
  let v107 : BitVec 32 := Scalar.muli v9 c2_i32_73
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v109 : BitVec 32 := Scalar.muli v8 c1_i32_74
  let v110 : BitVec 32 := Scalar.addi v108 v109
  v110.toNat
def k0_dev8 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v123 : BitVec 32 := Scalar.muli v2 c4_i32_83
  let v124 : BitVec 32 := Scalar.addi c0_i32_84 v123
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_85 : BitVec 32 := 2#32
  let v125 : BitVec 32 := Scalar.muli v9 c2_i32_85
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v127 : BitVec 32 := Scalar.muli v8 c1_i32_86
  let v128 : BitVec 32 := Scalar.addi v126 v127
  v128.toNat
def k0_dev9 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v141 : BitVec 32 := Scalar.muli v2 c4_i32_94
  let v142 : BitVec 32 := Scalar.addi c0_i32_95 v141
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_96 : BitVec 32 := 2#32
  let v143 : BitVec 32 := Scalar.muli v9 c2_i32_96
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v145 : BitVec 32 := Scalar.muli v8 c1_i32_97
  let v146 : BitVec 32 := Scalar.addi v144 v145
  v146.toNat
def k0_dev10 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v159 : BitVec 32 := Scalar.muli v2 c4_i32_105
  let v160 : BitVec 32 := Scalar.addi c0_i32_106 v159
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_107 : BitVec 32 := 2#32
  let v161 : BitVec 32 := Scalar.muli v9 c2_i32_107
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v163 : BitVec 32 := Scalar.muli v8 c1_i32_108
  let v164 : BitVec 32 := Scalar.addi v162 v163
  v164.toNat
def k0_dev11 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v177 : BitVec 32 := Scalar.muli v2 c4_i32_116
  let v178 : BitVec 32 := Scalar.addi c0_i32_117 v177
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_118 : BitVec 32 := 2#32
  let v179 : BitVec 32 := Scalar.muli v9 c2_i32_118
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v181 : BitVec 32 := Scalar.muli v8 c1_i32_119
  let v182 : BitVec 32 := Scalar.addi v180 v181
  v182.toNat
def k0_dev12 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v195 : BitVec 32 := Scalar.muli v2 c4_i32_127
  let v196 : BitVec 32 := Scalar.addi c0_i32_128 v195
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_129 : BitVec 32 := 2#32
  let v197 : BitVec 32 := Scalar.muli v9 c2_i32_129
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v199 : BitVec 32 := Scalar.muli v8 c1_i32_130
  let v200 : BitVec 32 := Scalar.addi v198 v199
  v200.toNat
def k0_dev13 (d0 : Dev nD) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_138 : BitVec 32 := 4#32
  let v213 : BitVec 32 := Scalar.muli v2 c4_i32_138
  let v214 : BitVec 32 := Scalar.addi c0_i32_139 v213
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_140 : BitVec 32 := 2#32
  let v215 : BitVec 32 := Scalar.muli v9 c2_i32_140
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v217 : BitVec 32 := Scalar.muli v8 c1_i32_141
  let v218 : BitVec 32 := Scalar.addi v216 v217
  v218.toNat
def k0_dev14 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v231 : BitVec 32 := Scalar.muli v2 c4_i32_149
  let v232 : BitVec 32 := Scalar.addi c0_i32_150 v231
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_151 : BitVec 32 := 2#32
  let v233 : BitVec 32 := Scalar.muli v9 c2_i32_151
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v235 : BitVec 32 := Scalar.muli v8 c1_i32_152
  let v236 : BitVec 32 := Scalar.addi v234 v235
  v236.toNat
def k0_dev15 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_160 : BitVec 32 := 4#32
  let v249 : BitVec 32 := Scalar.muli v2 c4_i32_160
  let v250 : BitVec 32 := Scalar.addi c0_i32_161 v249
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_162 : BitVec 32 := 2#32
  let v251 : BitVec 32 := Scalar.muli v9 c2_i32_162
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v253 : BitVec 32 := Scalar.muli v8 c1_i32_163
  let v254 : BitVec 32 := Scalar.addi v252 v253
  v254.toNat
def k0_dev16 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v267 : BitVec 32 := Scalar.muli v2 c4_i32_171
  let v268 : BitVec 32 := Scalar.addi c0_i32_172 v267
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_173 : BitVec 32 := 2#32
  let v269 : BitVec 32 := Scalar.muli v9 c2_i32_173
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v271 : BitVec 32 := Scalar.muli v8 c1_i32_174
  let v272 : BitVec 32 := Scalar.addi v270 v271
  v272.toNat
def k0_dev17 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v285 : BitVec 32 := Scalar.muli v2 c4_i32_182
  let v286 : BitVec 32 := Scalar.addi c0_i32_183 v285
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_184 : BitVec 32 := 2#32
  let v287 : BitVec 32 := Scalar.muli v9 c2_i32_184
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v289 : BitVec 32 := Scalar.muli v8 c1_i32_185
  let v290 : BitVec 32 := Scalar.addi v288 v289
  v290.toNat
def k0_dev18 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v303 : BitVec 32 := Scalar.muli v2 c4_i32_193
  let v304 : BitVec 32 := Scalar.addi c0_i32_194 v303
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_195 : BitVec 32 := 2#32
  let v305 : BitVec 32 := Scalar.muli v9 c2_i32_195
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v307 : BitVec 32 := Scalar.muli v8 c1_i32_196
  let v308 : BitVec 32 := Scalar.addi v306 v307
  v308.toNat
def k0_dev19 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v321 : BitVec 32 := Scalar.muli v2 c4_i32_204
  let v322 : BitVec 32 := Scalar.addi c0_i32_205 v321
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_206 : BitVec 32 := 2#32
  let v323 : BitVec 32 := Scalar.muli v9 c2_i32_206
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v325 : BitVec 32 := Scalar.muli v8 c1_i32_207
  let v326 : BitVec 32 := Scalar.addi v324 v325
  v326.toNat
def k0_dev20 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v339 : BitVec 32 := Scalar.muli v2 c4_i32_215
  let v340 : BitVec 32 := Scalar.addi c0_i32_216 v339
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_217 : BitVec 32 := 2#32
  let v341 : BitVec 32 := Scalar.muli v9 c2_i32_217
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v343 : BitVec 32 := Scalar.muli v8 c1_i32_218
  let v344 : BitVec 32 := Scalar.addi v342 v343
  v344.toNat
def k0_dev21 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v357 : BitVec 32 := Scalar.muli v2 c4_i32_226
  let v358 : BitVec 32 := Scalar.addi c0_i32_227 v357
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_228 : BitVec 32 := 2#32
  let v359 : BitVec 32 := Scalar.muli v9 c2_i32_228
  let v360 : BitVec 32 := Scalar.addi v358 v359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v361 : BitVec 32 := Scalar.muli v8 c1_i32_229
  let v362 : BitVec 32 := Scalar.addi v360 v361
  v362.toNat
def k0_dev22 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_237 : BitVec 32 := 4#32
  let v375 : BitVec 32 := Scalar.muli v2 c4_i32_237
  let v376 : BitVec 32 := Scalar.addi c0_i32_238 v375
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_239 : BitVec 32 := 2#32
  let v377 : BitVec 32 := Scalar.muli v9 c2_i32_239
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v379 : BitVec 32 := Scalar.muli v8 c1_i32_240
  let v380 : BitVec 32 := Scalar.addi v378 v379
  v380.toNat
def k0_dev23 (d0 : Dev nD) : Nat :=
  let c0_i32_249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_248 : BitVec 32 := 4#32
  let v393 : BitVec 32 := Scalar.muli v2 c4_i32_248
  let v394 : BitVec 32 := Scalar.addi c0_i32_249 v393
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_250 : BitVec 32 := 2#32
  let v395 : BitVec 32 := Scalar.muli v9 c2_i32_250
  let v396 : BitVec 32 := Scalar.addi v394 v395
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_251 : BitVec 32 := 1#32
  let v397 : BitVec 32 := Scalar.muli v8 c1_i32_251
  let v398 : BitVec 32 := Scalar.addi v396 v397
  v398.toNat
def k0_dev24 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v411 : BitVec 32 := Scalar.muli v2 c4_i32_259
  let v412 : BitVec 32 := Scalar.addi c0_i32_260 v411
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_261 : BitVec 32 := 2#32
  let v413 : BitVec 32 := Scalar.muli v9 c2_i32_261
  let v414 : BitVec 32 := Scalar.addi v412 v413
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v415 : BitVec 32 := Scalar.muli v8 c1_i32_262
  let v416 : BitVec 32 := Scalar.addi v414 v415
  v416.toNat
def k0_dev25 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v429 : BitVec 32 := Scalar.muli v2 c4_i32_270
  let v430 : BitVec 32 := Scalar.addi c0_i32_271 v429
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_272 : BitVec 32 := 2#32
  let v431 : BitVec 32 := Scalar.muli v9 c2_i32_272
  let v432 : BitVec 32 := Scalar.addi v430 v431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_273 : BitVec 32 := 1#32
  let v433 : BitVec 32 := Scalar.muli v8 c1_i32_273
  let v434 : BitVec 32 := Scalar.addi v432 v433
  v434.toNat
def k0_dev26 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v447 : BitVec 32 := Scalar.muli v2 c4_i32_281
  let v448 : BitVec 32 := Scalar.addi c0_i32_282 v447
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_283 : BitVec 32 := 2#32
  let v449 : BitVec 32 := Scalar.muli v9 c2_i32_283
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v451 : BitVec 32 := Scalar.muli v8 c1_i32_284
  let v452 : BitVec 32 := Scalar.addi v450 v451
  v452.toNat
def k0_dev27 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v465 : BitVec 32 := Scalar.muli v2 c4_i32_292
  let v466 : BitVec 32 := Scalar.addi c0_i32_293 v465
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_294 : BitVec 32 := 2#32
  let v467 : BitVec 32 := Scalar.muli v9 c2_i32_294
  let v468 : BitVec 32 := Scalar.addi v466 v467
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_295 : BitVec 32 := 1#32
  let v469 : BitVec 32 := Scalar.muli v8 c1_i32_295
  let v470 : BitVec 32 := Scalar.addi v468 v469
  v470.toNat
def k0_dev28 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_303 : BitVec 32 := 4#32
  let v483 : BitVec 32 := Scalar.muli v2 c4_i32_303
  let v484 : BitVec 32 := Scalar.addi c0_i32_304 v483
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_305 : BitVec 32 := 2#32
  let v485 : BitVec 32 := Scalar.muli v9 c2_i32_305
  let v486 : BitVec 32 := Scalar.addi v484 v485
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_306 : BitVec 32 := 1#32
  let v487 : BitVec 32 := Scalar.muli v8 c1_i32_306
  let v488 : BitVec 32 := Scalar.addi v486 v487
  v488.toNat
def k0_dev29 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v501 : BitVec 32 := Scalar.muli v2 c4_i32_314
  let v502 : BitVec 32 := Scalar.addi c0_i32_315 v501
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_316 : BitVec 32 := 2#32
  let v503 : BitVec 32 := Scalar.muli v9 c2_i32_316
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v505 : BitVec 32 := Scalar.muli v8 c1_i32_317
  let v506 : BitVec 32 := Scalar.addi v504 v505
  v506.toNat
def k0_dev30 (d0 : Dev nD) : Nat :=
  let c0_i32_326 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_325 : BitVec 32 := 4#32
  let v519 : BitVec 32 := Scalar.muli v2 c4_i32_325
  let v520 : BitVec 32 := Scalar.addi c0_i32_326 v519
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_327 : BitVec 32 := 2#32
  let v521 : BitVec 32 := Scalar.muli v9 c2_i32_327
  let v522 : BitVec 32 := Scalar.addi v520 v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_328 : BitVec 32 := 1#32
  let v523 : BitVec 32 := Scalar.muli v8 c1_i32_328
  let v524 : BitVec 32 := Scalar.addi v522 v523
  v524.toNat
def k0_dev31 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v537 : BitVec 32 := Scalar.muli v2 c4_i32_336
  let v538 : BitVec 32 := Scalar.addi c0_i32_337 v537
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_338 : BitVec 32 := 2#32
  let v539 : BitVec 32 := Scalar.muli v9 c2_i32_338
  let v540 : BitVec 32 := Scalar.addi v538 v539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v541 : BitVec 32 := Scalar.muli v8 c1_i32_339
  let v542 : BitVec 32 := Scalar.addi v540 v541
  v542.toNat
def k0_dev32 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v555 : BitVec 32 := Scalar.muli v2 c4_i32_347
  let v556 : BitVec 32 := Scalar.addi c0_i32_348 v555
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_349 : BitVec 32 := 2#32
  let v557 : BitVec 32 := Scalar.muli v9 c2_i32_349
  let v558 : BitVec 32 := Scalar.addi v556 v557
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v559 : BitVec 32 := Scalar.muli v8 c1_i32_350
  let v560 : BitVec 32 := Scalar.addi v558 v559
  v560.toNat
def k0_dev33 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v573 : BitVec 32 := Scalar.muli v2 c4_i32_358
  let v574 : BitVec 32 := Scalar.addi c0_i32_359 v573
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_360 : BitVec 32 := 2#32
  let v575 : BitVec 32 := Scalar.muli v9 c2_i32_360
  let v576 : BitVec 32 := Scalar.addi v574 v575
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v577 : BitVec 32 := Scalar.muli v8 c1_i32_361
  let v578 : BitVec 32 := Scalar.addi v576 v577
  v578.toNat
def k0_dev34 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v591 : BitVec 32 := Scalar.muli v2 c4_i32_369
  let v592 : BitVec 32 := Scalar.addi c0_i32_370 v591
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_371 : BitVec 32 := 2#32
  let v593 : BitVec 32 := Scalar.muli v9 c2_i32_371
  let v594 : BitVec 32 := Scalar.addi v592 v593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v595 : BitVec 32 := Scalar.muli v8 c1_i32_372
  let v596 : BitVec 32 := Scalar.addi v594 v595
  v596.toNat
def k0_dev35 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_380 : BitVec 32 := 4#32
  let v609 : BitVec 32 := Scalar.muli v2 c4_i32_380
  let v610 : BitVec 32 := Scalar.addi c0_i32_381 v609
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_382 : BitVec 32 := 2#32
  let v611 : BitVec 32 := Scalar.muli v9 c2_i32_382
  let v612 : BitVec 32 := Scalar.addi v610 v611
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_383 : BitVec 32 := 1#32
  let v613 : BitVec 32 := Scalar.muli v8 c1_i32_383
  let v614 : BitVec 32 := Scalar.addi v612 v613
  v614.toNat
def k0_off3 (d0 : Dev nD) (c0_i32_390 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32_388 : BitVec 32 := 16384#32
  let v623 : BitVec 32 := Scalar.muli v5 c16384_i32_388
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4096_i32_389 : BitVec 32 := 4096#32
  let v624 : BitVec 32 := Scalar.muli v23 c4096_i32_389
  let v625 : BitVec 32 := Scalar.addi v623 v624
  let v626 : BitVec 32 := Scalar.addi v625 c0_i32_390
  let c0_i32_396 : BitVec 32 := 0#32
  ![v626.toNat, 0]
def k0_off4 (d0 : Dev nD) (c0_i32_387 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c4096_i32_386 : BitVec 32 := 4096#32
  let v621 : BitVec 32 := Scalar.muli v23 c4096_i32_386
  let v622 : BitVec 32 := Scalar.addi v621 c0_i32_387
  let c0_i32_397 : BitVec 32 := 0#32
  ![v622.toNat, 0]
def k0_dev36 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v627 : BitVec 32 := Scalar.muli v2 c4_i32_392
  let v628 : BitVec 32 := Scalar.addi c0_i32_393 v627
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_394 : BitVec 32 := 2#32
  let v629 : BitVec 32 := Scalar.muli v9 c2_i32_394
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_395 : BitVec 32 := 1#32
  let v631 : BitVec 32 := Scalar.muli v8 c1_i32_395
  let v632 : BitVec 32 := Scalar.addi v630 v631
  v632.toNat
def k0_dev37 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v645 : BitVec 32 := Scalar.muli v2 c4_i32_404
  let v646 : BitVec 32 := Scalar.addi c0_i32_405 v645
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_406 : BitVec 32 := 2#32
  let v647 : BitVec 32 := Scalar.muli v9 c2_i32_406
  let v648 : BitVec 32 := Scalar.addi v646 v647
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_407 : BitVec 32 := 1#32
  let v649 : BitVec 32 := Scalar.muli v8 c1_i32_407
  let v650 : BitVec 32 := Scalar.addi v648 v649
  v650.toNat
def k0_dev38 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v663 : BitVec 32 := Scalar.muli v2 c4_i32_416
  let v664 : BitVec 32 := Scalar.addi c0_i32_417 v663
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_418 : BitVec 32 := 2#32
  let v665 : BitVec 32 := Scalar.muli v9 c2_i32_418
  let v666 : BitVec 32 := Scalar.addi v664 v665
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_419 : BitVec 32 := 1#32
  let v667 : BitVec 32 := Scalar.muli v8 c1_i32_419
  let v668 : BitVec 32 := Scalar.addi v666 v667
  v668.toNat
def k0_dev39 (d0 : Dev nD) : Nat :=
  let c0_i32_429 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_428 : BitVec 32 := 4#32
  let v681 : BitVec 32 := Scalar.muli v2 c4_i32_428
  let v682 : BitVec 32 := Scalar.addi c0_i32_429 v681
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_430 : BitVec 32 := 2#32
  let v683 : BitVec 32 := Scalar.muli v9 c2_i32_430
  let v684 : BitVec 32 := Scalar.addi v682 v683
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_431 : BitVec 32 := 1#32
  let v685 : BitVec 32 := Scalar.muli v8 c1_i32_431
  let v686 : BitVec 32 := Scalar.addi v684 v685
  v686.toNat
def k0_dev40 (d0 : Dev nD) : Nat :=
  let c0_i32_441 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_440 : BitVec 32 := 4#32
  let v699 : BitVec 32 := Scalar.muli v2 c4_i32_440
  let v700 : BitVec 32 := Scalar.addi c0_i32_441 v699
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_442 : BitVec 32 := 2#32
  let v701 : BitVec 32 := Scalar.muli v9 c2_i32_442
  let v702 : BitVec 32 := Scalar.addi v700 v701
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_443 : BitVec 32 := 1#32
  let v703 : BitVec 32 := Scalar.muli v8 c1_i32_443
  let v704 : BitVec 32 := Scalar.addi v702 v703
  v704.toNat
def k0_dev41 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v717 : BitVec 32 := Scalar.muli v2 c4_i32_452
  let v718 : BitVec 32 := Scalar.addi c0_i32_453 v717
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_454 : BitVec 32 := 2#32
  let v719 : BitVec 32 := Scalar.muli v9 c2_i32_454
  let v720 : BitVec 32 := Scalar.addi v718 v719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_455 : BitVec 32 := 1#32
  let v721 : BitVec 32 := Scalar.muli v8 c1_i32_455
  let v722 : BitVec 32 := Scalar.addi v720 v721
  v722.toNat
def k0_dev42 (d0 : Dev nD) : Nat :=
  let c0_i32_465 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_464 : BitVec 32 := 4#32
  let v735 : BitVec 32 := Scalar.muli v2 c4_i32_464
  let v736 : BitVec 32 := Scalar.addi c0_i32_465 v735
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_466 : BitVec 32 := 2#32
  let v737 : BitVec 32 := Scalar.muli v9 c2_i32_466
  let v738 : BitVec 32 := Scalar.addi v736 v737
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v739 : BitVec 32 := Scalar.muli v8 c1_i32_467
  let v740 : BitVec 32 := Scalar.addi v738 v739
  v740.toNat
def k0_dev43 (d0 : Dev nD) : Nat :=
  let c0_i32_477 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_476 : BitVec 32 := 4#32
  let v753 : BitVec 32 := Scalar.muli v2 c4_i32_476
  let v754 : BitVec 32 := Scalar.addi c0_i32_477 v753
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_478 : BitVec 32 := 2#32
  let v755 : BitVec 32 := Scalar.muli v9 c2_i32_478
  let v756 : BitVec 32 := Scalar.addi v754 v755
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_479 : BitVec 32 := 1#32
  let v757 : BitVec 32 := Scalar.muli v8 c1_i32_479
  let v758 : BitVec 32 := Scalar.addi v756 v757
  v758.toNat
def k0_dev44 (d0 : Dev nD) : Nat :=
  let c0_i32_489 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_488 : BitVec 32 := 4#32
  let v771 : BitVec 32 := Scalar.muli v2 c4_i32_488
  let v772 : BitVec 32 := Scalar.addi c0_i32_489 v771
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_490 : BitVec 32 := 2#32
  let v773 : BitVec 32 := Scalar.muli v9 c2_i32_490
  let v774 : BitVec 32 := Scalar.addi v772 v773
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_491 : BitVec 32 := 1#32
  let v775 : BitVec 32 := Scalar.muli v8 c1_i32_491
  let v776 : BitVec 32 := Scalar.addi v774 v775
  v776.toNat
def k0_dev45 (d0 : Dev nD) : Nat :=
  let c0_i32_501 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_500 : BitVec 32 := 4#32
  let v789 : BitVec 32 := Scalar.muli v2 c4_i32_500
  let v790 : BitVec 32 := Scalar.addi c0_i32_501 v789
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_502 : BitVec 32 := 2#32
  let v791 : BitVec 32 := Scalar.muli v9 c2_i32_502
  let v792 : BitVec 32 := Scalar.addi v790 v791
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_503 : BitVec 32 := 1#32
  let v793 : BitVec 32 := Scalar.muli v8 c1_i32_503
  let v794 : BitVec 32 := Scalar.addi v792 v793
  v794.toNat
def k0_dev46 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v807 : BitVec 32 := Scalar.muli v2 c4_i32_512
  let v808 : BitVec 32 := Scalar.addi c0_i32_513 v807
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_514 : BitVec 32 := 2#32
  let v809 : BitVec 32 := Scalar.muli v9 c2_i32_514
  let v810 : BitVec 32 := Scalar.addi v808 v809
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_515 : BitVec 32 := 1#32
  let v811 : BitVec 32 := Scalar.muli v8 c1_i32_515
  let v812 : BitVec 32 := Scalar.addi v810 v811
  v812.toNat
def k0_off5 (d0 : Dev nD) (c0_i32_529 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c16384_i32 : BitVec 32 := 16384#32
  let v25 : BitVec 32 := Scalar.muli v24 c16384_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32_528 : BitVec 32 := 4096#32
  let v832 : BitVec 32 := Scalar.muli v13 c4096_i32_528
  let v833 : BitVec 32 := Scalar.addi v25 v832
  let v834 : BitVec 32 := Scalar.addi v833 c0_i32_529
  let c0_i32_535 : BitVec 32 := 0#32
  ![v834.toNat, 0]
def k0_dev47 (d0 : Dev nD) : Nat :=
  let c0_i32_532 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_531 : BitVec 32 := 4#32
  let v835 : BitVec 32 := Scalar.muli v10 c4_i32_531
  let v836 : BitVec 32 := Scalar.addi c0_i32_532 v835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_533 : BitVec 32 := 2#32
  let v837 : BitVec 32 := Scalar.muli v5 c2_i32_533
  let v838 : BitVec 32 := Scalar.addi v836 v837
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_534 : BitVec 32 := 1#32
  let v839 : BitVec 32 := Scalar.muli v8 c1_i32_534
  let v840 : BitVec 32 := Scalar.addi v838 v839
  v840.toNat
def k0_dev48 (d0 : Dev nD) : Nat :=
  let c0_i32_543 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_542 : BitVec 32 := 4#32
  let v853 : BitVec 32 := Scalar.muli v2 c4_i32_542
  let v854 : BitVec 32 := Scalar.addi c0_i32_543 v853
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_544 : BitVec 32 := 2#32
  let v855 : BitVec 32 := Scalar.muli v5 c2_i32_544
  let v856 : BitVec 32 := Scalar.addi v854 v855
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_545 : BitVec 32 := 1#32
  let v857 : BitVec 32 := Scalar.muli v11 c1_i32_545
  let v858 : BitVec 32 := Scalar.addi v856 v857
  v858.toNat
def k0_off6 (d0 : Dev nD) (c0_i32_561 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32_560 : BitVec 32 := 16384#32
  let v875 : BitVec 32 := Scalar.muli v5 c16384_i32_560
  let v876 : BitVec 32 := Scalar.addi v875 c0_i32_561
  let c0_i32_564 : BitVec 32 := 0#32
  ![v876.toNat, 0]
def k0_dev49 (d0 : Dev nD) : Nat :=
  let c0_i32_581 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_580 : BitVec 32 := 4#32
  let v898 : BitVec 32 := Scalar.muli v10 c4_i32_580
  let v899 : BitVec 32 := Scalar.addi c0_i32_581 v898
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_582 : BitVec 32 := 2#32
  let v900 : BitVec 32 := Scalar.muli v5 c2_i32_582
  let v901 : BitVec 32 := Scalar.addi v899 v900
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_583 : BitVec 32 := 1#32
  let v902 : BitVec 32 := Scalar.muli v8 c1_i32_583
  let v903 : BitVec 32 := Scalar.addi v901 v902
  v903.toNat
def k0_dev50 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v916 : BitVec 32 := Scalar.muli v2 c4_i32_591
  let v917 : BitVec 32 := Scalar.addi c0_i32_592 v916
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_593 : BitVec 32 := 2#32
  let v918 : BitVec 32 := Scalar.muli v5 c2_i32_593
  let v919 : BitVec 32 := Scalar.addi v917 v918
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_594 : BitVec 32 := 1#32
  let v920 : BitVec 32 := Scalar.muli v11 c1_i32_594
  let v921 : BitVec 32 := Scalar.addi v919 v920
  v921.toNat
def k0_dev51 (d0 : Dev nD) : Nat :=
  let c0_i32_630 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_629 : BitVec 32 := 4#32
  let v961 : BitVec 32 := Scalar.muli v10 c4_i32_629
  let v962 : BitVec 32 := Scalar.addi c0_i32_630 v961
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_631 : BitVec 32 := 2#32
  let v963 : BitVec 32 := Scalar.muli v5 c2_i32_631
  let v964 : BitVec 32 := Scalar.addi v962 v963
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v965 : BitVec 32 := Scalar.muli v8 c1_i32_632
  let v966 : BitVec 32 := Scalar.addi v964 v965
  v966.toNat
def k0_dev52 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v979 : BitVec 32 := Scalar.muli v2 c4_i32_640
  let v980 : BitVec 32 := Scalar.addi c0_i32_641 v979
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v981 : BitVec 32 := Scalar.muli v5 c2_i32_642
  let v982 : BitVec 32 := Scalar.addi v980 v981
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_643 : BitVec 32 := 1#32
  let v983 : BitVec 32 := Scalar.muli v11 c1_i32_643
  let v984 : BitVec 32 := Scalar.addi v982 v983
  v984.toNat
def k0_dev53 (d0 : Dev nD) : Nat :=
  let c0_i32_684 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_683 : BitVec 32 := 4#32
  let v1029 : BitVec 32 := Scalar.muli v10 c4_i32_683
  let v1030 : BitVec 32 := Scalar.addi c0_i32_684 v1029
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_685 : BitVec 32 := 2#32
  let v1031 : BitVec 32 := Scalar.muli v5 c2_i32_685
  let v1032 : BitVec 32 := Scalar.addi v1030 v1031
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_686 : BitVec 32 := 1#32
  let v1033 : BitVec 32 := Scalar.muli v8 c1_i32_686
  let v1034 : BitVec 32 := Scalar.addi v1032 v1033
  v1034.toNat
def k0_dev54 (d0 : Dev nD) : Nat :=
  let c0_i32_695 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_694 : BitVec 32 := 4#32
  let v1047 : BitVec 32 := Scalar.muli v2 c4_i32_694
  let v1048 : BitVec 32 := Scalar.addi c0_i32_695 v1047
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_696 : BitVec 32 := 2#32
  let v1049 : BitVec 32 := Scalar.muli v5 c2_i32_696
  let v1050 : BitVec 32 := Scalar.addi v1048 v1049
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_697 : BitVec 32 := 1#32
  let v1051 : BitVec 32 := Scalar.muli v11 c1_i32_697
  let v1052 : BitVec 32 := Scalar.addi v1050 v1051
  v1052.toNat
def k0_dev55 (d0 : Dev nD) : Nat :=
  let c0_i32_738 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_737 : BitVec 32 := 4#32
  let v1097 : BitVec 32 := Scalar.muli v10 c4_i32_737
  let v1098 : BitVec 32 := Scalar.addi c0_i32_738 v1097
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_739 : BitVec 32 := 2#32
  let v1099 : BitVec 32 := Scalar.muli v5 c2_i32_739
  let v1100 : BitVec 32 := Scalar.addi v1098 v1099
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_740 : BitVec 32 := 1#32
  let v1101 : BitVec 32 := Scalar.muli v8 c1_i32_740
  let v1102 : BitVec 32 := Scalar.addi v1100 v1101
  v1102.toNat
def k0_dev56 (d0 : Dev nD) : Nat :=
  let c0_i32_749 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_748 : BitVec 32 := 4#32
  let v1115 : BitVec 32 := Scalar.muli v2 c4_i32_748
  let v1116 : BitVec 32 := Scalar.addi c0_i32_749 v1115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_750 : BitVec 32 := 2#32
  let v1117 : BitVec 32 := Scalar.muli v5 c2_i32_750
  let v1118 : BitVec 32 := Scalar.addi v1116 v1117
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_751 : BitVec 32 := 1#32
  let v1119 : BitVec 32 := Scalar.muli v11 c1_i32_751
  let v1120 : BitVec 32 := Scalar.addi v1118 v1119
  v1120.toNat
def k0_dev57 (d0 : Dev nD) : Nat :=
  let c0_i32_792 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_791 : BitVec 32 := 4#32
  let v1165 : BitVec 32 := Scalar.muli v10 c4_i32_791
  let v1166 : BitVec 32 := Scalar.addi c0_i32_792 v1165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_793 : BitVec 32 := 2#32
  let v1167 : BitVec 32 := Scalar.muli v5 c2_i32_793
  let v1168 : BitVec 32 := Scalar.addi v1166 v1167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_794 : BitVec 32 := 1#32
  let v1169 : BitVec 32 := Scalar.muli v8 c1_i32_794
  let v1170 : BitVec 32 := Scalar.addi v1168 v1169
  v1170.toNat
def k0_dev58 (d0 : Dev nD) : Nat :=
  let c0_i32_803 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_802 : BitVec 32 := 4#32
  let v1183 : BitVec 32 := Scalar.muli v2 c4_i32_802
  let v1184 : BitVec 32 := Scalar.addi c0_i32_803 v1183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_804 : BitVec 32 := 2#32
  let v1185 : BitVec 32 := Scalar.muli v5 c2_i32_804
  let v1186 : BitVec 32 := Scalar.addi v1184 v1185
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_805 : BitVec 32 := 1#32
  let v1187 : BitVec 32 := Scalar.muli v11 c1_i32_805
  let v1188 : BitVec 32 := Scalar.addi v1186 v1187
  v1188.toNat
def k0_dev59 (d0 : Dev nD) : Nat :=
  let c0_i32_845 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_844 : BitVec 32 := 4#32
  let v1233 : BitVec 32 := Scalar.muli v10 c4_i32_844
  let v1234 : BitVec 32 := Scalar.addi c0_i32_845 v1233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_846 : BitVec 32 := 2#32
  let v1235 : BitVec 32 := Scalar.muli v5 c2_i32_846
  let v1236 : BitVec 32 := Scalar.addi v1234 v1235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_847 : BitVec 32 := 1#32
  let v1237 : BitVec 32 := Scalar.muli v8 c1_i32_847
  let v1238 : BitVec 32 := Scalar.addi v1236 v1237
  v1238.toNat
def k0_dev60 (d0 : Dev nD) : Nat :=
  let c0_i32_856 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_855 : BitVec 32 := 4#32
  let v1251 : BitVec 32 := Scalar.muli v2 c4_i32_855
  let v1252 : BitVec 32 := Scalar.addi c0_i32_856 v1251
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_857 : BitVec 32 := 2#32
  let v1253 : BitVec 32 := Scalar.muli v5 c2_i32_857
  let v1254 : BitVec 32 := Scalar.addi v1252 v1253
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_858 : BitVec 32 := 1#32
  let v1255 : BitVec 32 := Scalar.muli v11 c1_i32_858
  let v1256 : BitVec 32 := Scalar.addi v1254 v1255
  v1256.toNat
def k0_dev61 (d0 : Dev nD) : Nat :=
  let c0_i32_898 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_897 : BitVec 32 := 4#32
  let v1301 : BitVec 32 := Scalar.muli v10 c4_i32_897
  let v1302 : BitVec 32 := Scalar.addi c0_i32_898 v1301
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_899 : BitVec 32 := 2#32
  let v1303 : BitVec 32 := Scalar.muli v5 c2_i32_899
  let v1304 : BitVec 32 := Scalar.addi v1302 v1303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_900 : BitVec 32 := 1#32
  let v1305 : BitVec 32 := Scalar.muli v8 c1_i32_900
  let v1306 : BitVec 32 := Scalar.addi v1304 v1305
  v1306.toNat
def k0_dev62 (d0 : Dev nD) : Nat :=
  let c0_i32_909 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_908 : BitVec 32 := 4#32
  let v1319 : BitVec 32 := Scalar.muli v2 c4_i32_908
  let v1320 : BitVec 32 := Scalar.addi c0_i32_909 v1319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_910 : BitVec 32 := 2#32
  let v1321 : BitVec 32 := Scalar.muli v5 c2_i32_910
  let v1322 : BitVec 32 := Scalar.addi v1320 v1321
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_911 : BitVec 32 := 1#32
  let v1323 : BitVec 32 := Scalar.muli v11 c1_i32_911
  let v1324 : BitVec 32 := Scalar.addi v1322 v1323
  v1324.toNat
def k0_dev63 (d0 : Dev nD) : Nat :=
  let c0_i32_951 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_950 : BitVec 32 := 4#32
  let v1369 : BitVec 32 := Scalar.muli v10 c4_i32_950
  let v1370 : BitVec 32 := Scalar.addi c0_i32_951 v1369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_952 : BitVec 32 := 2#32
  let v1371 : BitVec 32 := Scalar.muli v5 c2_i32_952
  let v1372 : BitVec 32 := Scalar.addi v1370 v1371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_953 : BitVec 32 := 1#32
  let v1373 : BitVec 32 := Scalar.muli v8 c1_i32_953
  let v1374 : BitVec 32 := Scalar.addi v1372 v1373
  v1374.toNat
def k0_dev64 (d0 : Dev nD) : Nat :=
  let c0_i32_962 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_961 : BitVec 32 := 4#32
  let v1387 : BitVec 32 := Scalar.muli v2 c4_i32_961
  let v1388 : BitVec 32 := Scalar.addi c0_i32_962 v1387
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_963 : BitVec 32 := 2#32
  let v1389 : BitVec 32 := Scalar.muli v5 c2_i32_963
  let v1390 : BitVec 32 := Scalar.addi v1388 v1389
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_964 : BitVec 32 := 1#32
  let v1391 : BitVec 32 := Scalar.muli v11 c1_i32_964
  let v1392 : BitVec 32 := Scalar.addi v1390 v1391
  v1392.toNat
def k0_dev65 (d0 : Dev nD) : Nat :=
  let c0_i32_1004 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1003 : BitVec 32 := 4#32
  let v1437 : BitVec 32 := Scalar.muli v10 c4_i32_1003
  let v1438 : BitVec 32 := Scalar.addi c0_i32_1004 v1437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1005 : BitVec 32 := 2#32
  let v1439 : BitVec 32 := Scalar.muli v5 c2_i32_1005
  let v1440 : BitVec 32 := Scalar.addi v1438 v1439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1006 : BitVec 32 := 1#32
  let v1441 : BitVec 32 := Scalar.muli v8 c1_i32_1006
  let v1442 : BitVec 32 := Scalar.addi v1440 v1441
  v1442.toNat
def k0_dev66 (d0 : Dev nD) : Nat :=
  let c0_i32_1015 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1014 : BitVec 32 := 4#32
  let v1455 : BitVec 32 := Scalar.muli v2 c4_i32_1014
  let v1456 : BitVec 32 := Scalar.addi c0_i32_1015 v1455
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1016 : BitVec 32 := 2#32
  let v1457 : BitVec 32 := Scalar.muli v5 c2_i32_1016
  let v1458 : BitVec 32 := Scalar.addi v1456 v1457
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1017 : BitVec 32 := 1#32
  let v1459 : BitVec 32 := Scalar.muli v11 c1_i32_1017
  let v1460 : BitVec 32 := Scalar.addi v1458 v1459
  v1460.toNat
def k0_dev67 (d0 : Dev nD) : Nat :=
  let c0_i32_1057 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1056 : BitVec 32 := 4#32
  let v1505 : BitVec 32 := Scalar.muli v10 c4_i32_1056
  let v1506 : BitVec 32 := Scalar.addi c0_i32_1057 v1505
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1058 : BitVec 32 := 2#32
  let v1507 : BitVec 32 := Scalar.muli v5 c2_i32_1058
  let v1508 : BitVec 32 := Scalar.addi v1506 v1507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1059 : BitVec 32 := 1#32
  let v1509 : BitVec 32 := Scalar.muli v8 c1_i32_1059
  let v1510 : BitVec 32 := Scalar.addi v1508 v1509
  v1510.toNat
def k0_dev68 (d0 : Dev nD) : Nat :=
  let c0_i32_1068 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1067 : BitVec 32 := 4#32
  let v1523 : BitVec 32 := Scalar.muli v2 c4_i32_1067
  let v1524 : BitVec 32 := Scalar.addi c0_i32_1068 v1523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1069 : BitVec 32 := 2#32
  let v1525 : BitVec 32 := Scalar.muli v5 c2_i32_1069
  let v1526 : BitVec 32 := Scalar.addi v1524 v1525
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1070 : BitVec 32 := 1#32
  let v1527 : BitVec 32 := Scalar.muli v11 c1_i32_1070
  let v1528 : BitVec 32 := Scalar.addi v1526 v1527
  v1528.toNat
def k0_dev69 (d0 : Dev nD) : Nat :=
  let c0_i32_1110 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1109 : BitVec 32 := 4#32
  let v1573 : BitVec 32 := Scalar.muli v10 c4_i32_1109
  let v1574 : BitVec 32 := Scalar.addi c0_i32_1110 v1573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1111 : BitVec 32 := 2#32
  let v1575 : BitVec 32 := Scalar.muli v5 c2_i32_1111
  let v1576 : BitVec 32 := Scalar.addi v1574 v1575
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1112 : BitVec 32 := 1#32
  let v1577 : BitVec 32 := Scalar.muli v8 c1_i32_1112
  let v1578 : BitVec 32 := Scalar.addi v1576 v1577
  v1578.toNat
def k0_dev70 (d0 : Dev nD) : Nat :=
  let c0_i32_1121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1120 : BitVec 32 := 4#32
  let v1591 : BitVec 32 := Scalar.muli v2 c4_i32_1120
  let v1592 : BitVec 32 := Scalar.addi c0_i32_1121 v1591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1122 : BitVec 32 := 2#32
  let v1593 : BitVec 32 := Scalar.muli v5 c2_i32_1122
  let v1594 : BitVec 32 := Scalar.addi v1592 v1593
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1123 : BitVec 32 := 1#32
  let v1595 : BitVec 32 := Scalar.muli v11 c1_i32_1123
  let v1596 : BitVec 32 := Scalar.addi v1594 v1595
  v1596.toNat
def k0_dev71 (d0 : Dev nD) : Nat :=
  let c0_i32_1163 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1162 : BitVec 32 := 4#32
  let v1641 : BitVec 32 := Scalar.muli v10 c4_i32_1162
  let v1642 : BitVec 32 := Scalar.addi c0_i32_1163 v1641
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1164 : BitVec 32 := 2#32
  let v1643 : BitVec 32 := Scalar.muli v5 c2_i32_1164
  let v1644 : BitVec 32 := Scalar.addi v1642 v1643
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1165 : BitVec 32 := 1#32
  let v1645 : BitVec 32 := Scalar.muli v8 c1_i32_1165
  let v1646 : BitVec 32 := Scalar.addi v1644 v1645
  v1646.toNat
def k0_dev72 (d0 : Dev nD) : Nat :=
  let c0_i32_1174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1173 : BitVec 32 := 4#32
  let v1659 : BitVec 32 := Scalar.muli v2 c4_i32_1173
  let v1660 : BitVec 32 := Scalar.addi c0_i32_1174 v1659
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1175 : BitVec 32 := 2#32
  let v1661 : BitVec 32 := Scalar.muli v5 c2_i32_1175
  let v1662 : BitVec 32 := Scalar.addi v1660 v1661
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1176 : BitVec 32 := 1#32
  let v1663 : BitVec 32 := Scalar.muli v11 c1_i32_1176
  let v1664 : BitVec 32 := Scalar.addi v1662 v1663
  v1664.toNat
def k0_dev73 (d0 : Dev nD) : Nat :=
  let c0_i32_1216 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1215 : BitVec 32 := 4#32
  let v1709 : BitVec 32 := Scalar.muli v10 c4_i32_1215
  let v1710 : BitVec 32 := Scalar.addi c0_i32_1216 v1709
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1217 : BitVec 32 := 2#32
  let v1711 : BitVec 32 := Scalar.muli v5 c2_i32_1217
  let v1712 : BitVec 32 := Scalar.addi v1710 v1711
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1218 : BitVec 32 := 1#32
  let v1713 : BitVec 32 := Scalar.muli v8 c1_i32_1218
  let v1714 : BitVec 32 := Scalar.addi v1712 v1713
  v1714.toNat
def k0_dev74 (d0 : Dev nD) : Nat :=
  let c0_i32_1227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1226 : BitVec 32 := 4#32
  let v1727 : BitVec 32 := Scalar.muli v2 c4_i32_1226
  let v1728 : BitVec 32 := Scalar.addi c0_i32_1227 v1727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1228 : BitVec 32 := 2#32
  let v1729 : BitVec 32 := Scalar.muli v5 c2_i32_1228
  let v1730 : BitVec 32 := Scalar.addi v1728 v1729
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1229 : BitVec 32 := 1#32
  let v1731 : BitVec 32 := Scalar.muli v11 c1_i32_1229
  let v1732 : BitVec 32 := Scalar.addi v1730 v1731
  v1732.toNat
def k0_dev75 (d0 : Dev nD) : Nat :=
  let c0_i32_1269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1268 : BitVec 32 := 4#32
  let v1777 : BitVec 32 := Scalar.muli v10 c4_i32_1268
  let v1778 : BitVec 32 := Scalar.addi c0_i32_1269 v1777
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1270 : BitVec 32 := 2#32
  let v1779 : BitVec 32 := Scalar.muli v5 c2_i32_1270
  let v1780 : BitVec 32 := Scalar.addi v1778 v1779
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1271 : BitVec 32 := 1#32
  let v1781 : BitVec 32 := Scalar.muli v8 c1_i32_1271
  let v1782 : BitVec 32 := Scalar.addi v1780 v1781
  v1782.toNat
def k0_dev76 (d0 : Dev nD) : Nat :=
  let c0_i32_1280 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1279 : BitVec 32 := 4#32
  let v1795 : BitVec 32 := Scalar.muli v2 c4_i32_1279
  let v1796 : BitVec 32 := Scalar.addi c0_i32_1280 v1795
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1281 : BitVec 32 := 2#32
  let v1797 : BitVec 32 := Scalar.muli v5 c2_i32_1281
  let v1798 : BitVec 32 := Scalar.addi v1796 v1797
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1282 : BitVec 32 := 1#32
  let v1799 : BitVec 32 := Scalar.muli v11 c1_i32_1282
  let v1800 : BitVec 32 := Scalar.addi v1798 v1799
  v1800.toNat
def k0_dev77 (d0 : Dev nD) : Nat :=
  let c0_i32_1322 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1321 : BitVec 32 := 4#32
  let v1845 : BitVec 32 := Scalar.muli v10 c4_i32_1321
  let v1846 : BitVec 32 := Scalar.addi c0_i32_1322 v1845
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1323 : BitVec 32 := 2#32
  let v1847 : BitVec 32 := Scalar.muli v5 c2_i32_1323
  let v1848 : BitVec 32 := Scalar.addi v1846 v1847
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1324 : BitVec 32 := 1#32
  let v1849 : BitVec 32 := Scalar.muli v8 c1_i32_1324
  let v1850 : BitVec 32 := Scalar.addi v1848 v1849
  v1850.toNat
def k0_dev78 (d0 : Dev nD) : Nat :=
  let c0_i32_1333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1332 : BitVec 32 := 4#32
  let v1863 : BitVec 32 := Scalar.muli v2 c4_i32_1332
  let v1864 : BitVec 32 := Scalar.addi c0_i32_1333 v1863
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1334 : BitVec 32 := 2#32
  let v1865 : BitVec 32 := Scalar.muli v5 c2_i32_1334
  let v1866 : BitVec 32 := Scalar.addi v1864 v1865
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1335 : BitVec 32 := 1#32
  let v1867 : BitVec 32 := Scalar.muli v11 c1_i32_1335
  let v1868 : BitVec 32 := Scalar.addi v1866 v1867
  v1868.toNat
def k0_dev79 (d0 : Dev nD) : Nat :=
  let c0_i32_1375 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1374 : BitVec 32 := 4#32
  let v1913 : BitVec 32 := Scalar.muli v10 c4_i32_1374
  let v1914 : BitVec 32 := Scalar.addi c0_i32_1375 v1913
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1376 : BitVec 32 := 2#32
  let v1915 : BitVec 32 := Scalar.muli v5 c2_i32_1376
  let v1916 : BitVec 32 := Scalar.addi v1914 v1915
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1377 : BitVec 32 := 1#32
  let v1917 : BitVec 32 := Scalar.muli v8 c1_i32_1377
  let v1918 : BitVec 32 := Scalar.addi v1916 v1917
  v1918.toNat
def k0_dev80 (d0 : Dev nD) : Nat :=
  let c0_i32_1386 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1385 : BitVec 32 := 4#32
  let v1931 : BitVec 32 := Scalar.muli v2 c4_i32_1385
  let v1932 : BitVec 32 := Scalar.addi c0_i32_1386 v1931
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1387 : BitVec 32 := 2#32
  let v1933 : BitVec 32 := Scalar.muli v5 c2_i32_1387
  let v1934 : BitVec 32 := Scalar.addi v1932 v1933
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1388 : BitVec 32 := 1#32
  let v1935 : BitVec 32 := Scalar.muli v11 c1_i32_1388
  let v1936 : BitVec 32 := Scalar.addi v1934 v1935
  v1936.toNat
def k0_dev81 (d0 : Dev nD) : Nat :=
  let c0_i32_1405 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1404 : BitVec 32 := 4#32
  let v1959 : BitVec 32 := Scalar.muli v10 c4_i32_1404
  let v1960 : BitVec 32 := Scalar.addi c0_i32_1405 v1959
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1406 : BitVec 32 := 2#32
  let v1961 : BitVec 32 := Scalar.muli v5 c2_i32_1406
  let v1962 : BitVec 32 := Scalar.addi v1960 v1961
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1407 : BitVec 32 := 1#32
  let v1963 : BitVec 32 := Scalar.muli v8 c1_i32_1407
  let v1964 : BitVec 32 := Scalar.addi v1962 v1963
  v1964.toNat
def k0_dev82 (d0 : Dev nD) : Nat :=
  let c0_i32_1416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1415 : BitVec 32 := 4#32
  let v1977 : BitVec 32 := Scalar.muli v2 c4_i32_1415
  let v1978 : BitVec 32 := Scalar.addi c0_i32_1416 v1977
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1417 : BitVec 32 := 2#32
  let v1979 : BitVec 32 := Scalar.muli v5 c2_i32_1417
  let v1980 : BitVec 32 := Scalar.addi v1978 v1979
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1418 : BitVec 32 := 1#32
  let v1981 : BitVec 32 := Scalar.muli v11 c1_i32_1418
  let v1982 : BitVec 32 := Scalar.addi v1980 v1981
  v1982.toNat
def k0_dev83 (d0 : Dev nD) : Nat :=
  let c0_i32_1435 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1434 : BitVec 32 := 4#32
  let v2005 : BitVec 32 := Scalar.muli v10 c4_i32_1434
  let v2006 : BitVec 32 := Scalar.addi c0_i32_1435 v2005
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1436 : BitVec 32 := 2#32
  let v2007 : BitVec 32 := Scalar.muli v5 c2_i32_1436
  let v2008 : BitVec 32 := Scalar.addi v2006 v2007
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1437 : BitVec 32 := 1#32
  let v2009 : BitVec 32 := Scalar.muli v8 c1_i32_1437
  let v2010 : BitVec 32 := Scalar.addi v2008 v2009
  v2010.toNat
def k0_dev84 (d0 : Dev nD) : Nat :=
  let c0_i32_1446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1445 : BitVec 32 := 4#32
  let v2023 : BitVec 32 := Scalar.muli v2 c4_i32_1445
  let v2024 : BitVec 32 := Scalar.addi c0_i32_1446 v2023
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1447 : BitVec 32 := 2#32
  let v2025 : BitVec 32 := Scalar.muli v5 c2_i32_1447
  let v2026 : BitVec 32 := Scalar.addi v2024 v2025
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1448 : BitVec 32 := 1#32
  let v2027 : BitVec 32 := Scalar.muli v11 c1_i32_1448
  let v2028 : BitVec 32 := Scalar.addi v2026 v2027
  v2028.toNat
def k0_dev85 (d0 : Dev nD) : Nat :=
  let c0_i32_1465 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1464 : BitVec 32 := 4#32
  let v2051 : BitVec 32 := Scalar.muli v10 c4_i32_1464
  let v2052 : BitVec 32 := Scalar.addi c0_i32_1465 v2051
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1466 : BitVec 32 := 2#32
  let v2053 : BitVec 32 := Scalar.muli v5 c2_i32_1466
  let v2054 : BitVec 32 := Scalar.addi v2052 v2053
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1467 : BitVec 32 := 1#32
  let v2055 : BitVec 32 := Scalar.muli v8 c1_i32_1467
  let v2056 : BitVec 32 := Scalar.addi v2054 v2055
  v2056.toNat
def k0_dev86 (d0 : Dev nD) : Nat :=
  let c0_i32_1476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1475 : BitVec 32 := 4#32
  let v2069 : BitVec 32 := Scalar.muli v2 c4_i32_1475
  let v2070 : BitVec 32 := Scalar.addi c0_i32_1476 v2069
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1477 : BitVec 32 := 2#32
  let v2071 : BitVec 32 := Scalar.muli v5 c2_i32_1477
  let v2072 : BitVec 32 := Scalar.addi v2070 v2071
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1478 : BitVec 32 := 1#32
  let v2073 : BitVec 32 := Scalar.muli v11 c1_i32_1478
  let v2074 : BitVec 32 := Scalar.addi v2072 v2073
  v2074.toNat
def k0_dev87 (d0 : Dev nD) : Nat :=
  let c0_i32_1495 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1494 : BitVec 32 := 4#32
  let v2097 : BitVec 32 := Scalar.muli v10 c4_i32_1494
  let v2098 : BitVec 32 := Scalar.addi c0_i32_1495 v2097
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1496 : BitVec 32 := 2#32
  let v2099 : BitVec 32 := Scalar.muli v5 c2_i32_1496
  let v2100 : BitVec 32 := Scalar.addi v2098 v2099
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1497 : BitVec 32 := 1#32
  let v2101 : BitVec 32 := Scalar.muli v8 c1_i32_1497
  let v2102 : BitVec 32 := Scalar.addi v2100 v2101
  v2102.toNat
def k0_dev88 (d0 : Dev nD) : Nat :=
  let c0_i32_1506 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1505 : BitVec 32 := 4#32
  let v2115 : BitVec 32 := Scalar.muli v2 c4_i32_1505
  let v2116 : BitVec 32 := Scalar.addi c0_i32_1506 v2115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1507 : BitVec 32 := 2#32
  let v2117 : BitVec 32 := Scalar.muli v5 c2_i32_1507
  let v2118 : BitVec 32 := Scalar.addi v2116 v2117
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1508 : BitVec 32 := 1#32
  let v2119 : BitVec 32 := Scalar.muli v11 c1_i32_1508
  let v2120 : BitVec 32 := Scalar.addi v2118 v2119
  v2120.toNat
def k0_dev89 (d0 : Dev nD) : Nat :=
  let c0_i32_1525 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1524 : BitVec 32 := 4#32
  let v2143 : BitVec 32 := Scalar.muli v10 c4_i32_1524
  let v2144 : BitVec 32 := Scalar.addi c0_i32_1525 v2143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1526 : BitVec 32 := 2#32
  let v2145 : BitVec 32 := Scalar.muli v5 c2_i32_1526
  let v2146 : BitVec 32 := Scalar.addi v2144 v2145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1527 : BitVec 32 := 1#32
  let v2147 : BitVec 32 := Scalar.muli v8 c1_i32_1527
  let v2148 : BitVec 32 := Scalar.addi v2146 v2147
  v2148.toNat
def k0_dev90 (d0 : Dev nD) : Nat :=
  let c0_i32_1536 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1535 : BitVec 32 := 4#32
  let v2161 : BitVec 32 := Scalar.muli v2 c4_i32_1535
  let v2162 : BitVec 32 := Scalar.addi c0_i32_1536 v2161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1537 : BitVec 32 := 2#32
  let v2163 : BitVec 32 := Scalar.muli v5 c2_i32_1537
  let v2164 : BitVec 32 := Scalar.addi v2162 v2163
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1538 : BitVec 32 := 1#32
  let v2165 : BitVec 32 := Scalar.muli v11 c1_i32_1538
  let v2166 : BitVec 32 := Scalar.addi v2164 v2165
  v2166.toNat
def k0_dev91 (d0 : Dev nD) : Nat :=
  let c0_i32_1555 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1554 : BitVec 32 := 4#32
  let v2189 : BitVec 32 := Scalar.muli v10 c4_i32_1554
  let v2190 : BitVec 32 := Scalar.addi c0_i32_1555 v2189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1556 : BitVec 32 := 2#32
  let v2191 : BitVec 32 := Scalar.muli v5 c2_i32_1556
  let v2192 : BitVec 32 := Scalar.addi v2190 v2191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1557 : BitVec 32 := 1#32
  let v2193 : BitVec 32 := Scalar.muli v8 c1_i32_1557
  let v2194 : BitVec 32 := Scalar.addi v2192 v2193
  v2194.toNat
def k0_dev92 (d0 : Dev nD) : Nat :=
  let c0_i32_1566 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1565 : BitVec 32 := 4#32
  let v2207 : BitVec 32 := Scalar.muli v2 c4_i32_1565
  let v2208 : BitVec 32 := Scalar.addi c0_i32_1566 v2207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1567 : BitVec 32 := 2#32
  let v2209 : BitVec 32 := Scalar.muli v5 c2_i32_1567
  let v2210 : BitVec 32 := Scalar.addi v2208 v2209
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1568 : BitVec 32 := 1#32
  let v2211 : BitVec 32 := Scalar.muli v11 c1_i32_1568
  let v2212 : BitVec 32 := Scalar.addi v2210 v2211
  v2212.toNat
def k0_dev93 (d0 : Dev nD) : Nat :=
  let c0_i32_1585 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1584 : BitVec 32 := 4#32
  let v2235 : BitVec 32 := Scalar.muli v10 c4_i32_1584
  let v2236 : BitVec 32 := Scalar.addi c0_i32_1585 v2235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1586 : BitVec 32 := 2#32
  let v2237 : BitVec 32 := Scalar.muli v5 c2_i32_1586
  let v2238 : BitVec 32 := Scalar.addi v2236 v2237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1587 : BitVec 32 := 1#32
  let v2239 : BitVec 32 := Scalar.muli v8 c1_i32_1587
  let v2240 : BitVec 32 := Scalar.addi v2238 v2239
  v2240.toNat
def k0_dev94 (d0 : Dev nD) : Nat :=
  let c0_i32_1596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1595 : BitVec 32 := 4#32
  let v2253 : BitVec 32 := Scalar.muli v2 c4_i32_1595
  let v2254 : BitVec 32 := Scalar.addi c0_i32_1596 v2253
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1597 : BitVec 32 := 2#32
  let v2255 : BitVec 32 := Scalar.muli v5 c2_i32_1597
  let v2256 : BitVec 32 := Scalar.addi v2254 v2255
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1598 : BitVec 32 := 1#32
  let v2257 : BitVec 32 := Scalar.muli v11 c1_i32_1598
  let v2258 : BitVec 32 := Scalar.addi v2256 v2257
  v2258.toNat
def k0_dev95 (d0 : Dev nD) : Nat :=
  let c0_i32_1615 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1614 : BitVec 32 := 4#32
  let v2281 : BitVec 32 := Scalar.muli v10 c4_i32_1614
  let v2282 : BitVec 32 := Scalar.addi c0_i32_1615 v2281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1616 : BitVec 32 := 2#32
  let v2283 : BitVec 32 := Scalar.muli v5 c2_i32_1616
  let v2284 : BitVec 32 := Scalar.addi v2282 v2283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v2285 : BitVec 32 := Scalar.muli v8 c1_i32_1617
  let v2286 : BitVec 32 := Scalar.addi v2284 v2285
  v2286.toNat
def k0_dev96 (d0 : Dev nD) : Nat :=
  let c0_i32_1626 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1625 : BitVec 32 := 4#32
  let v2299 : BitVec 32 := Scalar.muli v2 c4_i32_1625
  let v2300 : BitVec 32 := Scalar.addi c0_i32_1626 v2299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1627 : BitVec 32 := 2#32
  let v2301 : BitVec 32 := Scalar.muli v5 c2_i32_1627
  let v2302 : BitVec 32 := Scalar.addi v2300 v2301
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1628 : BitVec 32 := 1#32
  let v2303 : BitVec 32 := Scalar.muli v11 c1_i32_1628
  let v2304 : BitVec 32 := Scalar.addi v2302 v2303
  v2304.toNat
def k0_dev97 (d0 : Dev nD) : Nat :=
  let c0_i32_1645 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1644 : BitVec 32 := 4#32
  let v2327 : BitVec 32 := Scalar.muli v10 c4_i32_1644
  let v2328 : BitVec 32 := Scalar.addi c0_i32_1645 v2327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1646 : BitVec 32 := 2#32
  let v2329 : BitVec 32 := Scalar.muli v5 c2_i32_1646
  let v2330 : BitVec 32 := Scalar.addi v2328 v2329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1647 : BitVec 32 := 1#32
  let v2331 : BitVec 32 := Scalar.muli v8 c1_i32_1647
  let v2332 : BitVec 32 := Scalar.addi v2330 v2331
  v2332.toNat
def k0_dev98 (d0 : Dev nD) : Nat :=
  let c0_i32_1656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1655 : BitVec 32 := 4#32
  let v2345 : BitVec 32 := Scalar.muli v2 c4_i32_1655
  let v2346 : BitVec 32 := Scalar.addi c0_i32_1656 v2345
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1657 : BitVec 32 := 2#32
  let v2347 : BitVec 32 := Scalar.muli v5 c2_i32_1657
  let v2348 : BitVec 32 := Scalar.addi v2346 v2347
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1658 : BitVec 32 := 1#32
  let v2349 : BitVec 32 := Scalar.muli v11 c1_i32_1658
  let v2350 : BitVec 32 := Scalar.addi v2348 v2349
  v2350.toNat
def k0_dev99 (d0 : Dev nD) : Nat :=
  let c0_i32_1675 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1674 : BitVec 32 := 4#32
  let v2373 : BitVec 32 := Scalar.muli v10 c4_i32_1674
  let v2374 : BitVec 32 := Scalar.addi c0_i32_1675 v2373
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1676 : BitVec 32 := 2#32
  let v2375 : BitVec 32 := Scalar.muli v5 c2_i32_1676
  let v2376 : BitVec 32 := Scalar.addi v2374 v2375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1677 : BitVec 32 := 1#32
  let v2377 : BitVec 32 := Scalar.muli v8 c1_i32_1677
  let v2378 : BitVec 32 := Scalar.addi v2376 v2377
  v2378.toNat
def k0_dev100 (d0 : Dev nD) : Nat :=
  let c0_i32_1686 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1685 : BitVec 32 := 4#32
  let v2391 : BitVec 32 := Scalar.muli v2 c4_i32_1685
  let v2392 : BitVec 32 := Scalar.addi c0_i32_1686 v2391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1687 : BitVec 32 := 2#32
  let v2393 : BitVec 32 := Scalar.muli v5 c2_i32_1687
  let v2394 : BitVec 32 := Scalar.addi v2392 v2393
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1688 : BitVec 32 := 1#32
  let v2395 : BitVec 32 := Scalar.muli v11 c1_i32_1688
  let v2396 : BitVec 32 := Scalar.addi v2394 v2395
  v2396.toNat
def k0_dev101 (d0 : Dev nD) : Nat :=
  let c0_i32_1705 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1704 : BitVec 32 := 4#32
  let v2419 : BitVec 32 := Scalar.muli v10 c4_i32_1704
  let v2420 : BitVec 32 := Scalar.addi c0_i32_1705 v2419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1706 : BitVec 32 := 2#32
  let v2421 : BitVec 32 := Scalar.muli v5 c2_i32_1706
  let v2422 : BitVec 32 := Scalar.addi v2420 v2421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1707 : BitVec 32 := 1#32
  let v2423 : BitVec 32 := Scalar.muli v8 c1_i32_1707
  let v2424 : BitVec 32 := Scalar.addi v2422 v2423
  v2424.toNat
def k0_dev102 (d0 : Dev nD) : Nat :=
  let c0_i32_1716 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1715 : BitVec 32 := 4#32
  let v2437 : BitVec 32 := Scalar.muli v2 c4_i32_1715
  let v2438 : BitVec 32 := Scalar.addi c0_i32_1716 v2437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1717 : BitVec 32 := 2#32
  let v2439 : BitVec 32 := Scalar.muli v5 c2_i32_1717
  let v2440 : BitVec 32 := Scalar.addi v2438 v2439
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1718 : BitVec 32 := 1#32
  let v2441 : BitVec 32 := Scalar.muli v11 c1_i32_1718
  let v2442 : BitVec 32 := Scalar.addi v2440 v2441
  v2442.toNat
def k0_dev103 (d0 : Dev nD) : Nat :=
  let c0_i32_1735 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1734 : BitVec 32 := 4#32
  let v2465 : BitVec 32 := Scalar.muli v10 c4_i32_1734
  let v2466 : BitVec 32 := Scalar.addi c0_i32_1735 v2465
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1736 : BitVec 32 := 2#32
  let v2467 : BitVec 32 := Scalar.muli v5 c2_i32_1736
  let v2468 : BitVec 32 := Scalar.addi v2466 v2467
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1737 : BitVec 32 := 1#32
  let v2469 : BitVec 32 := Scalar.muli v8 c1_i32_1737
  let v2470 : BitVec 32 := Scalar.addi v2468 v2469
  v2470.toNat
def k0_dev104 (d0 : Dev nD) : Nat :=
  let c0_i32_1746 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1745 : BitVec 32 := 4#32
  let v2483 : BitVec 32 := Scalar.muli v2 c4_i32_1745
  let v2484 : BitVec 32 := Scalar.addi c0_i32_1746 v2483
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1747 : BitVec 32 := 2#32
  let v2485 : BitVec 32 := Scalar.muli v5 c2_i32_1747
  let v2486 : BitVec 32 := Scalar.addi v2484 v2485
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1748 : BitVec 32 := 1#32
  let v2487 : BitVec 32 := Scalar.muli v11 c1_i32_1748
  let v2488 : BitVec 32 := Scalar.addi v2486 v2487
  v2488.toNat
def k0_dev105 (d0 : Dev nD) : Nat :=
  let c0_i32_1765 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1764 : BitVec 32 := 4#32
  let v2511 : BitVec 32 := Scalar.muli v10 c4_i32_1764
  let v2512 : BitVec 32 := Scalar.addi c0_i32_1765 v2511
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1766 : BitVec 32 := 2#32
  let v2513 : BitVec 32 := Scalar.muli v5 c2_i32_1766
  let v2514 : BitVec 32 := Scalar.addi v2512 v2513
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1767 : BitVec 32 := 1#32
  let v2515 : BitVec 32 := Scalar.muli v8 c1_i32_1767
  let v2516 : BitVec 32 := Scalar.addi v2514 v2515
  v2516.toNat
def k0_dev106 (d0 : Dev nD) : Nat :=
  let c0_i32_1776 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1775 : BitVec 32 := 4#32
  let v2529 : BitVec 32 := Scalar.muli v2 c4_i32_1775
  let v2530 : BitVec 32 := Scalar.addi c0_i32_1776 v2529
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1777 : BitVec 32 := 2#32
  let v2531 : BitVec 32 := Scalar.muli v5 c2_i32_1777
  let v2532 : BitVec 32 := Scalar.addi v2530 v2531
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1778 : BitVec 32 := 1#32
  let v2533 : BitVec 32 := Scalar.muli v11 c1_i32_1778
  let v2534 : BitVec 32 := Scalar.addi v2532 v2533
  v2534.toNat
def k0_dev107 (d0 : Dev nD) : Nat :=
  let c0_i32_1795 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1794 : BitVec 32 := 4#32
  let v2557 : BitVec 32 := Scalar.muli v10 c4_i32_1794
  let v2558 : BitVec 32 := Scalar.addi c0_i32_1795 v2557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1796 : BitVec 32 := 2#32
  let v2559 : BitVec 32 := Scalar.muli v5 c2_i32_1796
  let v2560 : BitVec 32 := Scalar.addi v2558 v2559
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1797 : BitVec 32 := 1#32
  let v2561 : BitVec 32 := Scalar.muli v8 c1_i32_1797
  let v2562 : BitVec 32 := Scalar.addi v2560 v2561
  v2562.toNat
def k0_dev108 (d0 : Dev nD) : Nat :=
  let c0_i32_1806 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1805 : BitVec 32 := 4#32
  let v2575 : BitVec 32 := Scalar.muli v2 c4_i32_1805
  let v2576 : BitVec 32 := Scalar.addi c0_i32_1806 v2575
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1807 : BitVec 32 := 2#32
  let v2577 : BitVec 32 := Scalar.muli v5 c2_i32_1807
  let v2578 : BitVec 32 := Scalar.addi v2576 v2577
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1808 : BitVec 32 := 1#32
  let v2579 : BitVec 32 := Scalar.muli v11 c1_i32_1808
  let v2580 : BitVec 32 := Scalar.addi v2578 v2579
  v2580.toNat
def k0_dev109 (d0 : Dev nD) : Nat :=
  let c0_i32_1825 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1824 : BitVec 32 := 4#32
  let v2603 : BitVec 32 := Scalar.muli v10 c4_i32_1824
  let v2604 : BitVec 32 := Scalar.addi c0_i32_1825 v2603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1826 : BitVec 32 := 2#32
  let v2605 : BitVec 32 := Scalar.muli v5 c2_i32_1826
  let v2606 : BitVec 32 := Scalar.addi v2604 v2605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1827 : BitVec 32 := 1#32
  let v2607 : BitVec 32 := Scalar.muli v8 c1_i32_1827
  let v2608 : BitVec 32 := Scalar.addi v2606 v2607
  v2608.toNat
def k0_dev110 (d0 : Dev nD) : Nat :=
  let c0_i32_1836 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1835 : BitVec 32 := 4#32
  let v2621 : BitVec 32 := Scalar.muli v2 c4_i32_1835
  let v2622 : BitVec 32 := Scalar.addi c0_i32_1836 v2621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1837 : BitVec 32 := 2#32
  let v2623 : BitVec 32 := Scalar.muli v5 c2_i32_1837
  let v2624 : BitVec 32 := Scalar.addi v2622 v2623
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1838 : BitVec 32 := 1#32
  let v2625 : BitVec 32 := Scalar.muli v11 c1_i32_1838
  let v2626 : BitVec 32 := Scalar.addi v2624 v2625
  v2626.toNat
def k0_off7 (d0 : Dev nD) (c1408_i32_1852 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c16384_i32 : BitVec 32 := 16384#32
  let v25 : BitVec 32 := Scalar.muli v24 c16384_i32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c4096_i32_1851 : BitVec 32 := 4096#32
  let v2646 : BitVec 32 := Scalar.muli v19 c4096_i32_1851
  let v2647 : BitVec 32 := Scalar.addi v25 v2646
  let v2648 : BitVec 32 := Scalar.addi v2647 c1408_i32_1852
  let c0_i32_1858 : BitVec 32 := 0#32
  ![v2648.toNat, 0]
def k0_dev111 (d0 : Dev nD) : Nat :=
  let c0_i32_1855 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1854 : BitVec 32 := 4#32
  let v2649 : BitVec 32 := Scalar.muli v10 c4_i32_1854
  let v2650 : BitVec 32 := Scalar.addi c0_i32_1855 v2649
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1856 : BitVec 32 := 2#32
  let v2651 : BitVec 32 := Scalar.muli v5 c2_i32_1856
  let v2652 : BitVec 32 := Scalar.addi v2650 v2651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1857 : BitVec 32 := 1#32
  let v2653 : BitVec 32 := Scalar.muli v8 c1_i32_1857
  let v2654 : BitVec 32 := Scalar.addi v2652 v2653
  v2654.toNat
def k0_dev112 (d0 : Dev nD) : Nat :=
  let c0_i32_1874 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1873 : BitVec 32 := 4#32
  let v2677 : BitVec 32 := Scalar.muli v10 c4_i32_1873
  let v2678 : BitVec 32 := Scalar.addi c0_i32_1874 v2677
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1875 : BitVec 32 := 2#32
  let v2679 : BitVec 32 := Scalar.muli v5 c2_i32_1875
  let v2680 : BitVec 32 := Scalar.addi v2678 v2679
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1876 : BitVec 32 := 1#32
  let v2681 : BitVec 32 := Scalar.muli v8 c1_i32_1876
  let v2682 : BitVec 32 := Scalar.addi v2680 v2681
  v2682.toNat
def k0_dev113 (d0 : Dev nD) : Nat :=
  let c0_i32_1893 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1892 : BitVec 32 := 4#32
  let v2705 : BitVec 32 := Scalar.muli v10 c4_i32_1892
  let v2706 : BitVec 32 := Scalar.addi c0_i32_1893 v2705
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1894 : BitVec 32 := 2#32
  let v2707 : BitVec 32 := Scalar.muli v5 c2_i32_1894
  let v2708 : BitVec 32 := Scalar.addi v2706 v2707
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1895 : BitVec 32 := 1#32
  let v2709 : BitVec 32 := Scalar.muli v8 c1_i32_1895
  let v2710 : BitVec 32 := Scalar.addi v2708 v2709
  v2710.toNat
def k0_dev114 (d0 : Dev nD) : Nat :=
  let c0_i32_1912 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1911 : BitVec 32 := 4#32
  let v2733 : BitVec 32 := Scalar.muli v10 c4_i32_1911
  let v2734 : BitVec 32 := Scalar.addi c0_i32_1912 v2733
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1913 : BitVec 32 := 2#32
  let v2735 : BitVec 32 := Scalar.muli v5 c2_i32_1913
  let v2736 : BitVec 32 := Scalar.addi v2734 v2735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1914 : BitVec 32 := 1#32
  let v2737 : BitVec 32 := Scalar.muli v8 c1_i32_1914
  let v2738 : BitVec 32 := Scalar.addi v2736 v2737
  v2738.toNat
def k0_dev115 (d0 : Dev nD) : Nat :=
  let c0_i32_1931 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1930 : BitVec 32 := 4#32
  let v2761 : BitVec 32 := Scalar.muli v10 c4_i32_1930
  let v2762 : BitVec 32 := Scalar.addi c0_i32_1931 v2761
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1932 : BitVec 32 := 2#32
  let v2763 : BitVec 32 := Scalar.muli v5 c2_i32_1932
  let v2764 : BitVec 32 := Scalar.addi v2762 v2763
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1933 : BitVec 32 := 1#32
  let v2765 : BitVec 32 := Scalar.muli v8 c1_i32_1933
  let v2766 : BitVec 32 := Scalar.addi v2764 v2765
  v2766.toNat
def k0_dev116 (d0 : Dev nD) : Nat :=
  let c0_i32_1950 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1949 : BitVec 32 := 4#32
  let v2789 : BitVec 32 := Scalar.muli v10 c4_i32_1949
  let v2790 : BitVec 32 := Scalar.addi c0_i32_1950 v2789
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1951 : BitVec 32 := 2#32
  let v2791 : BitVec 32 := Scalar.muli v5 c2_i32_1951
  let v2792 : BitVec 32 := Scalar.addi v2790 v2791
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1952 : BitVec 32 := 1#32
  let v2793 : BitVec 32 := Scalar.muli v8 c1_i32_1952
  let v2794 : BitVec 32 := Scalar.addi v2792 v2793
  v2794.toNat
def k0_dev117 (d0 : Dev nD) : Nat :=
  let c0_i32_1969 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1968 : BitVec 32 := 4#32
  let v2817 : BitVec 32 := Scalar.muli v10 c4_i32_1968
  let v2818 : BitVec 32 := Scalar.addi c0_i32_1969 v2817
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1970 : BitVec 32 := 2#32
  let v2819 : BitVec 32 := Scalar.muli v5 c2_i32_1970
  let v2820 : BitVec 32 := Scalar.addi v2818 v2819
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1971 : BitVec 32 := 1#32
  let v2821 : BitVec 32 := Scalar.muli v8 c1_i32_1971
  let v2822 : BitVec 32 := Scalar.addi v2820 v2821
  v2822.toNat
def k0_dev118 (d0 : Dev nD) : Nat :=
  let c0_i32_1988 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1987 : BitVec 32 := 4#32
  let v2845 : BitVec 32 := Scalar.muli v10 c4_i32_1987
  let v2846 : BitVec 32 := Scalar.addi c0_i32_1988 v2845
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1989 : BitVec 32 := 2#32
  let v2847 : BitVec 32 := Scalar.muli v5 c2_i32_1989
  let v2848 : BitVec 32 := Scalar.addi v2846 v2847
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1990 : BitVec 32 := 1#32
  let v2849 : BitVec 32 := Scalar.muli v8 c1_i32_1990
  let v2850 : BitVec 32 := Scalar.addi v2848 v2849
  v2850.toNat
def k0_dev119 (d0 : Dev nD) : Nat :=
  let c0_i32_2007 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2006 : BitVec 32 := 4#32
  let v2873 : BitVec 32 := Scalar.muli v10 c4_i32_2006
  let v2874 : BitVec 32 := Scalar.addi c0_i32_2007 v2873
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2008 : BitVec 32 := 2#32
  let v2875 : BitVec 32 := Scalar.muli v5 c2_i32_2008
  let v2876 : BitVec 32 := Scalar.addi v2874 v2875
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2009 : BitVec 32 := 1#32
  let v2877 : BitVec 32 := Scalar.muli v8 c1_i32_2009
  let v2878 : BitVec 32 := Scalar.addi v2876 v2877
  v2878.toNat
def k0_dev120 (d0 : Dev nD) : Nat :=
  let c0_i32_2026 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2025 : BitVec 32 := 4#32
  let v2901 : BitVec 32 := Scalar.muli v10 c4_i32_2025
  let v2902 : BitVec 32 := Scalar.addi c0_i32_2026 v2901
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2027 : BitVec 32 := 2#32
  let v2903 : BitVec 32 := Scalar.muli v5 c2_i32_2027
  let v2904 : BitVec 32 := Scalar.addi v2902 v2903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2028 : BitVec 32 := 1#32
  let v2905 : BitVec 32 := Scalar.muli v8 c1_i32_2028
  let v2906 : BitVec 32 := Scalar.addi v2904 v2905
  v2906.toNat
def k0_dev121 (d0 : Dev nD) : Nat :=
  let c0_i32_2045 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2044 : BitVec 32 := 4#32
  let v2929 : BitVec 32 := Scalar.muli v10 c4_i32_2044
  let v2930 : BitVec 32 := Scalar.addi c0_i32_2045 v2929
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2046 : BitVec 32 := 2#32
  let v2931 : BitVec 32 := Scalar.muli v5 c2_i32_2046
  let v2932 : BitVec 32 := Scalar.addi v2930 v2931
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2047 : BitVec 32 := 1#32
  let v2933 : BitVec 32 := Scalar.muli v8 c1_i32_2047
  let v2934 : BitVec 32 := Scalar.addi v2932 v2933
  v2934.toNat
def k0_off8 (d0 : Dev nD) (c2816_i32_2061 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c16384_i32 : BitVec 32 := 16384#32
  let v25 : BitVec 32 := Scalar.muli v24 c16384_i32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c4096_i32_2060 : BitVec 32 := 4096#32
  let v2954 : BitVec 32 := Scalar.muli v16 c4096_i32_2060
  let v2955 : BitVec 32 := Scalar.addi v25 v2954
  let v2956 : BitVec 32 := Scalar.addi v2955 c2816_i32_2061
  let c0_i32_2067 : BitVec 32 := 0#32
  ![v2956.toNat, 0]
def k0_dev122 (d0 : Dev nD) : Nat :=
  let c0_i32_2064 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2063 : BitVec 32 := 4#32
  let v2957 : BitVec 32 := Scalar.muli v2 c4_i32_2063
  let v2958 : BitVec 32 := Scalar.addi c0_i32_2064 v2957
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2065 : BitVec 32 := 2#32
  let v2959 : BitVec 32 := Scalar.muli v5 c2_i32_2065
  let v2960 : BitVec 32 := Scalar.addi v2958 v2959
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2066 : BitVec 32 := 1#32
  let v2961 : BitVec 32 := Scalar.muli v11 c1_i32_2066
  let v2962 : BitVec 32 := Scalar.addi v2960 v2961
  v2962.toNat
def k0_dev123 (d0 : Dev nD) : Nat :=
  let c0_i32_2083 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2082 : BitVec 32 := 4#32
  let v2985 : BitVec 32 := Scalar.muli v2 c4_i32_2082
  let v2986 : BitVec 32 := Scalar.addi c0_i32_2083 v2985
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2084 : BitVec 32 := 2#32
  let v2987 : BitVec 32 := Scalar.muli v5 c2_i32_2084
  let v2988 : BitVec 32 := Scalar.addi v2986 v2987
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2085 : BitVec 32 := 1#32
  let v2989 : BitVec 32 := Scalar.muli v11 c1_i32_2085
  let v2990 : BitVec 32 := Scalar.addi v2988 v2989
  v2990.toNat
def k0_dev124 (d0 : Dev nD) : Nat :=
  let c0_i32_2102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2101 : BitVec 32 := 4#32
  let v3013 : BitVec 32 := Scalar.muli v2 c4_i32_2101
  let v3014 : BitVec 32 := Scalar.addi c0_i32_2102 v3013
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2103 : BitVec 32 := 2#32
  let v3015 : BitVec 32 := Scalar.muli v5 c2_i32_2103
  let v3016 : BitVec 32 := Scalar.addi v3014 v3015
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2104 : BitVec 32 := 1#32
  let v3017 : BitVec 32 := Scalar.muli v11 c1_i32_2104
  let v3018 : BitVec 32 := Scalar.addi v3016 v3017
  v3018.toNat
def k0_dev125 (d0 : Dev nD) : Nat :=
  let c0_i32_2121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2120 : BitVec 32 := 4#32
  let v3041 : BitVec 32 := Scalar.muli v2 c4_i32_2120
  let v3042 : BitVec 32 := Scalar.addi c0_i32_2121 v3041
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2122 : BitVec 32 := 2#32
  let v3043 : BitVec 32 := Scalar.muli v5 c2_i32_2122
  let v3044 : BitVec 32 := Scalar.addi v3042 v3043
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2123 : BitVec 32 := 1#32
  let v3045 : BitVec 32 := Scalar.muli v11 c1_i32_2123
  let v3046 : BitVec 32 := Scalar.addi v3044 v3045
  v3046.toNat
def k0_dev126 (d0 : Dev nD) : Nat :=
  let c0_i32_2140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2139 : BitVec 32 := 4#32
  let v3069 : BitVec 32 := Scalar.muli v2 c4_i32_2139
  let v3070 : BitVec 32 := Scalar.addi c0_i32_2140 v3069
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2141 : BitVec 32 := 2#32
  let v3071 : BitVec 32 := Scalar.muli v5 c2_i32_2141
  let v3072 : BitVec 32 := Scalar.addi v3070 v3071
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2142 : BitVec 32 := 1#32
  let v3073 : BitVec 32 := Scalar.muli v11 c1_i32_2142
  let v3074 : BitVec 32 := Scalar.addi v3072 v3073
  v3074.toNat
def k0_dev127 (d0 : Dev nD) : Nat :=
  let c0_i32_2159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2158 : BitVec 32 := 4#32
  let v3097 : BitVec 32 := Scalar.muli v2 c4_i32_2158
  let v3098 : BitVec 32 := Scalar.addi c0_i32_2159 v3097
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2160 : BitVec 32 := 2#32
  let v3099 : BitVec 32 := Scalar.muli v5 c2_i32_2160
  let v3100 : BitVec 32 := Scalar.addi v3098 v3099
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2161 : BitVec 32 := 1#32
  let v3101 : BitVec 32 := Scalar.muli v11 c1_i32_2161
  let v3102 : BitVec 32 := Scalar.addi v3100 v3101
  v3102.toNat
def k0_dev128 (d0 : Dev nD) : Nat :=
  let c0_i32_2178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2177 : BitVec 32 := 4#32
  let v3125 : BitVec 32 := Scalar.muli v2 c4_i32_2177
  let v3126 : BitVec 32 := Scalar.addi c0_i32_2178 v3125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2179 : BitVec 32 := 2#32
  let v3127 : BitVec 32 := Scalar.muli v5 c2_i32_2179
  let v3128 : BitVec 32 := Scalar.addi v3126 v3127
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2180 : BitVec 32 := 1#32
  let v3129 : BitVec 32 := Scalar.muli v11 c1_i32_2180
  let v3130 : BitVec 32 := Scalar.addi v3128 v3129
  v3130.toNat
def k0_dev129 (d0 : Dev nD) : Nat :=
  let c0_i32_2197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2196 : BitVec 32 := 4#32
  let v3153 : BitVec 32 := Scalar.muli v2 c4_i32_2196
  let v3154 : BitVec 32 := Scalar.addi c0_i32_2197 v3153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2198 : BitVec 32 := 2#32
  let v3155 : BitVec 32 := Scalar.muli v5 c2_i32_2198
  let v3156 : BitVec 32 := Scalar.addi v3154 v3155
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2199 : BitVec 32 := 1#32
  let v3157 : BitVec 32 := Scalar.muli v11 c1_i32_2199
  let v3158 : BitVec 32 := Scalar.addi v3156 v3157
  v3158.toNat
def k0_dev130 (d0 : Dev nD) : Nat :=
  let c0_i32_2216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2215 : BitVec 32 := 4#32
  let v3181 : BitVec 32 := Scalar.muli v2 c4_i32_2215
  let v3182 : BitVec 32 := Scalar.addi c0_i32_2216 v3181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2217 : BitVec 32 := 2#32
  let v3183 : BitVec 32 := Scalar.muli v5 c2_i32_2217
  let v3184 : BitVec 32 := Scalar.addi v3182 v3183
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2218 : BitVec 32 := 1#32
  let v3185 : BitVec 32 := Scalar.muli v11 c1_i32_2218
  let v3186 : BitVec 32 := Scalar.addi v3184 v3185
  v3186.toNat
def k0_dev131 (d0 : Dev nD) : Nat :=
  let c0_i32_2235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2234 : BitVec 32 := 4#32
  let v3209 : BitVec 32 := Scalar.muli v2 c4_i32_2234
  let v3210 : BitVec 32 := Scalar.addi c0_i32_2235 v3209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2236 : BitVec 32 := 2#32
  let v3211 : BitVec 32 := Scalar.muli v5 c2_i32_2236
  let v3212 : BitVec 32 := Scalar.addi v3210 v3211
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2237 : BitVec 32 := 1#32
  let v3213 : BitVec 32 := Scalar.muli v11 c1_i32_2237
  let v3214 : BitVec 32 := Scalar.addi v3212 v3213
  v3214.toNat
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
The kernel's body as a program of loops.

The body one device runs is a long straight line: the transfers of one kind differ only in the number of the
chunk they move. Here that line is written once more, with one definition for each kind of transfer or wait and
a loop over the chunk number, and the two are the same program (`body_eq`).

Each definition takes the program that follows it, so that the whole is a chain of single operations.
-/
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-- A program of one device's core. -/
abbrev P (F : FTy → Type) : Type 1 := Prog (TpuEff nD τ sig (Elt F) Λ₀ .tc) PUnit

/-- `f 0`, then `f 1`, …, then `f (n - 1)`, then `k`. -/
def loop : (n : ℕ) → (Fin n → P F → P F) → P F → P F
  | 0, _, k => k
  | n + 1, f, k => f 0 (loop n (fun i => f i.succ) k)

/-! ## The arrays and the semaphores -/

/-- The device's block of `x`. -/
abbrev xM : Memref sig .tc .hbm S16384x1024 .f32 := Memref.whole main_arg0
/-- The device's result. -/
abbrev oM : Memref sig .tc .hbm S32768x1024 .f32 := Memref.whole main_v1
/-- The two staging blocks of the device's own copy. -/
abbrev vM : Memref sig .tc .vmem S2x1024x1024 .f32 := Memref.whole cc0_scratch0

/-- A chunk of 128 rows of `x`. -/
abbrev xAt (off : Fin 2 → ℕ) (h : ∀ a, off a + S128x1024.size a ≤ S16384x1024.size a) :
    Memref sig .tc .hbm S128x1024 .f32 :=
  xM.slice (Rect.unit (s := S16384x1024) off S128x1024.size h) (fun _ => rfl)

/-- A chunk of 128 rows of the result. -/
abbrev oAt (off : Fin 2 → ℕ) (h : ∀ a, off a + S128x1024.size a ≤ S32768x1024.size a) :
    Memref sig .tc .hbm S128x1024 .f32 :=
  oM.slice (Rect.unit (s := S32768x1024) off S128x1024.size h) (fun _ => rfl)

/-- A block of 1024 rows of `x`. -/
abbrev xBlk (off : Fin 2 → ℕ) (h : ∀ a, off a + S1024x1024.size a ≤ S16384x1024.size a) :
    Memref sig .tc .hbm S1024x1024 .f32 :=
  xM.slice (Rect.unit (s := S16384x1024) off S1024x1024.size h) (fun _ => rfl)

/-- A block of 1024 rows of the result. -/
abbrev oBlk (off : Fin 2 → ℕ) (h : ∀ a, off a + S1024x1024.size a ≤ S32768x1024.size a) :
    Memref sig .tc .hbm S1024x1024 .f32 :=
  oM.slice (Rect.unit (s := S32768x1024) off S1024x1024.size h) (fun _ => rfl)

theorem slot_inb (s : Fin 2) : ∀ a, (![s.val, 0, 0] : Fin 3 → ℕ) a + S1x1024x1024.size a ≤ S2x1024x1024.size a := by
  revert s; decide

/-- One of the two staging blocks. -/
abbrev slot (s : Fin 2) : Memref sig .tc .vmem S1024x1024 .f32 :=
  (vM.slice (Rect.unit (s := S2x1024x1024) ![s.val, 0, 0] S1x1024x1024.size (slot_inb s)) (fun _ => rfl)).squeeze
    S1024x1024 squeezes_S1x1024x1024_S1024x1024

theorem sem_inb (k : Fin 128) : ∀ a, (![k.val] : Fin 1 → ℕ) a + S1.size a ≤ S128.size a := by
  revert k; decide
theorem sem2_inb (s : Fin 2) : ∀ a, (![s.val] : Fin 1 → ℕ) a + S1.size a ≤ S2.size a := by
  revert s; decide

/-- The semaphore that says the `k`-th transfer has left. -/
abbrev sendS (k : Fin 128) : DmaSem sig :=
  ((cc0_scratch1.slice (Rect.unit (s := S128) ![k.val] S1.size (sem_inb k))).squeeze S_ squeezes_S1_S_).sem
/-- The semaphore that says the `k`-th transfer has arrived. -/
abbrev recvS (k : Fin 128) : DmaSem sig :=
  ((cc0_scratch2.slice (Rect.unit (s := S128) ![k.val] S1.size (sem_inb k))).squeeze S_ squeezes_S1_S_).sem
/-- The semaphore of the copies into staging block `s`. -/
abbrev inS (s : Fin 2) : DmaSem sig :=
  ((cc0_scratch3.slice (Rect.unit (s := S2) ![s.val] S1.size (sem2_inb s))).squeeze S_ squeezes_S1_S_).sem
/-- The semaphore of the copies out of staging block `s`. -/
abbrev outS (s : Fin 2) : DmaSem sig :=
  ((cc0_scratch4.slice (Rect.unit (s := S2) ![s.val] S1.size (sem2_inb s))).squeeze S_ squeezes_S1_S_).sem
/-- The start-up semaphore. -/
abbrev barS : Sem sig := sig.barrier 0 rfl

/-! ## The operations -/

/-- Send a chunk to device `t` as the transfer `k`. -/
def send (src dst : Memref sig .tc .hbm S128x1024 .f32) (t : Dev nD) (k : Fin 128) (p : P F) : P F :=
  .op (.enqueueDma src (.remote (Dev.tc t) dst (.dma (sendS k))) (.dma (recvS k)) (View.wordExact_bits rfl) (View.wordExact_bits rfl) ⟨⟨rfl, Or.inl rfl⟩, trivial⟩)
    fun _ => p

/-- Wait for a chunk at a semaphore. -/
def await (s : DmaSem sig) (src dst : Memref sig .tc .hbm S128x1024 .f32) (p : P F) : P F :=
  .op (.waitDma2 s src dst (View.wordExact_bits rfl) (View.wordExact_bits rfl)) fun _ => p

/-- Copy a block of `x` into staging block `s` and wait for it. -/
def load (src : Memref sig .tc .hbm S1024x1024 .f32) (s : Fin 2) (p : P F) : P F :=
  .op (.enqueueDma src (.here (slot s)) (.dma (inS s)) (View.wordExact_bits rfl) ((View.wordExact_bits rfl).reshape _ _) ⟨Or.inl rfl, trivial⟩)
    fun _ => .op (.waitDma2 (inS s) src (slot s) (View.wordExact_bits rfl) ((View.wordExact_bits rfl).reshape _ _)) fun _ => p

/-- Start the copy of staging block `s` into a block of the result. -/
def store (dst : Memref sig .tc .hbm S1024x1024 .f32) (s : Fin 2) (p : P F) : P F :=
  .op (.enqueueDma (slot s) (.here dst) (.dma (outS s)) ((View.wordExact_bits rfl).reshape _ _) (View.wordExact_bits rfl) ⟨Or.inl rfl, trivial⟩)
    fun _ => p

/-- Wait for that copy. -/
def stored (dst : Memref sig .tc .hbm S1024x1024 .f32) (s : Fin 2) (p : P F) : P F :=
  .op (.waitDma2 (outS s) (slot s) dst ((View.wordExact_bits rfl).reshape _ _) (View.wordExact_bits rfl)) fun _ => p

/-- Tell device `t` to go ahead. -/
def signal (t : Dev nD) (p : P F) : P F := .op (.semSignal (t, .tc) barS (1#32 : BitVec 32).toInt) fun _ => p

/-- Wait for three devices to go ahead. -/
def ready (p : P F) : P F := .op (.semWait barS (3#32 : BitVec 32).toInt) fun _ => p

/-! ## The places each kind of transfer reads and writes, and the three neighbours -/

/-- The neighbour along `y`. -/
abbrev toY (d : Dev nD) : Dev nD := ⟨k0_dev1 d, k0_dev1_lt d⟩
/-- The neighbour along `x`. -/
abbrev toX (d : Dev nD) : Dev nD := ⟨k0_dev2 d, k0_dev2_lt d⟩
/-- The neighbour along `z`. -/
abbrev toZ (d : Dev nD) : Dev nD := ⟨k0_dev3 d, k0_dev3_lt d⟩

/-- Chunk `i` of the device's own quarter: in the result, at the place of the device's own half. -/
abbrev o1 (d : Dev nD) (i : Fin 32) := oAt (k0_off1 d (BitVec.ofNat 32 (128 * i.val))) (k0_off1_inb d i)
/-- Chunk `i` of the device's own quarter: in `x`. -/
abbrev x1 (d : Dev nD) (i : Fin 32) := xAt (k0_off2 d (BitVec.ofNat 32 (128 * i.val))) (k0_off2_inb d i)
/-- Chunk `i` of the diagonal quarter: in the result, at the place of the device's own half. -/
abbrev o1d (d : Dev nD) (i : Fin 11) := oAt (k0_off3 d (BitVec.ofNat 32 (128 * i.val))) (k0_off3_inb d i)
/-- Chunk `i` of the diagonal quarter: in `x`. -/
abbrev x1d (d : Dev nD) (i : Fin 11) := xAt (k0_off4 d (BitVec.ofNat 32 (128 * i.val))) (k0_off4_inb d i)
/-- Chunk `i` of the device's own quarter in the other half of the result. -/
abbrev o2 (d : Dev nD) (i : Fin 32) := oAt (k0_off5 d (BitVec.ofNat 32 (128 * i.val))) (k0_off5_inb d i)
/-- Chunk `11 + i` of the quarter of the neighbour along `z`, in the other half of the result. -/
abbrev o4a (d : Dev nD) (i : Fin 11) := oAt (k0_off7 d (BitVec.ofNat 32 (1408 + 128 * i.val))) (k0_off7_inb d i)
/-- Chunk `22 + i` of the quarter of the neighbour along `x`, in the other half of the result. -/
abbrev o4b (d : Dev nD) (i : Fin 10) := oAt (k0_off8 d (BitVec.ofNat 32 (2816 + 128 * i.val))) (k0_off8_inb d i)

theorem xblk_inb (k : Fin 16) : ∀ a, (![1024 * k.val, 0] : Fin 2 → ℕ) a + S1024x1024.size a ≤ S16384x1024.size a := by
  revert k; decide
/-- Block `k` of `x`. -/
abbrev xb (k : Fin 16) := xBlk ![1024 * k.val, 0] (xblk_inb k)
/-- Block `k` of the device's own half of the result. -/
abbrev ob (d : Dev nD) (k : Fin 16) := oBlk (k0_off6 d (BitVec.ofNat 32 (1024 * k.val))) (k0_off6_inb d k)

/-- Block `k` goes through staging block `k % 2`. -/
abbrev par (k : Fin 16) : Fin 2 := ⟨k.val % 2, Nat.mod_lt _ (by decide)⟩

/-! ## The numbers of the transfers -/

/-- Transfer `i` of the first kind: own quarter, to the neighbour along `y`. -/
abbrev n1 (i : Fin 32) : Fin 128 := ⟨i.val, by omega⟩
/-- … diagonal quarter, to the neighbour along `y`. -/
abbrev n1d (i : Fin 11) : Fin 128 := ⟨32 + i.val, by omega⟩
/-- … received chunk of the own quarter, on to the neighbour along `x`. -/
abbrev n2 (i : Fin 32) : Fin 128 := ⟨43 + i.val, by omega⟩
/-- … the same chunk, on to the neighbour along `z`. -/
abbrev n3 (i : Fin 32) : Fin 128 := ⟨75 + i.val, by omega⟩
/-- … chunk received from `z`, on to the neighbour along `x`. -/
abbrev n4a (i : Fin 11) : Fin 128 := ⟨107 + i.val, by omega⟩
/-- … chunk received from `x`, on to the neighbour along `z`. -/
abbrev n4b (i : Fin 10) : Fin 128 := ⟨118 + i.val, by omega⟩

/-! ## The steps of the body -/

/-- Await the first transfer's chunk `i` and send it on along `x` and along `z`. -/
def relay (d : Dev nD) (i : Fin 32) (p : P F) : P F :=
  await (recvS (n1 i)) (x1 d i) (o1 d i) <| send (o2 d i) (o2 d i) (toX d) (n2 i) <| send (o2 d i) (o2 d i) (toZ d) (n3 i) p

/-- Bring block `k` of `x` into its staging block and start its copy into the result. -/
def pump (d : Dev nD) (k : Fin 16) (p : P F) : P F := load (xb k) (par k) <| store (ob d k) (par k) p

/-- The body on device `d`, after it has read which device it is. -/
def body (d : Dev nD) : P F :=
  signal (toY d) <| signal (toX d) <| signal (toZ d) <| ready <|
  loop 32 (fun i => send (x1 d i) (o1 d i) (toY d) (n1 i)) <|
  loop 11 (fun i => send (x1d d i) (o1d d i) (toY d) (n1d i)) <|
  loop 2 (fun i p => relay d ⟨i.val, by omega⟩ (pump d ⟨i.val, by omega⟩ p)) <|
  loop 14 (fun i p => relay d ⟨2 + i.val, by omega⟩ (stored (ob d ⟨i.val, by omega⟩) (par ⟨i.val, by omega⟩) (pump d ⟨2 + i.val, by omega⟩ p))) <|
  loop 16 (fun i => relay d ⟨16 + i.val, by omega⟩) <|
  loop 11 (fun i p => await (recvS (n3 ⟨11 + i.val, by omega⟩)) (o2 d ⟨11 + i.val, by omega⟩) (o2 d ⟨11 + i.val, by omega⟩) (send (o4a d i) (o4a d i) (toX d) (n4a i) p)) <|
  loop 10 (fun i p => await (recvS (n2 ⟨22 + i.val, by omega⟩)) (o2 d ⟨22 + i.val, by omega⟩) (o2 d ⟨22 + i.val, by omega⟩) (send (o4b d i) (o4b d i) (toZ d) (n4b i) p)) <|
  loop 11 (fun i => await (recvS (n1d i)) (x1d d i) (o1d d i)) <|
  loop 11 (fun i p => await (recvS (n2 ⟨i.val, by omega⟩)) (o2 d ⟨i.val, by omega⟩) (o2 d ⟨i.val, by omega⟩) (await (recvS (n3 ⟨i.val, by omega⟩)) (o2 d ⟨i.val, by omega⟩) (o2 d ⟨i.val, by omega⟩) p)) <|
  loop 11 (fun i => await (recvS (n2 ⟨11 + i.val, by omega⟩)) (o2 d ⟨11 + i.val, by omega⟩) (o2 d ⟨11 + i.val, by omega⟩)) <|
  loop 10 (fun i => await (recvS (n3 ⟨22 + i.val, by omega⟩)) (o2 d ⟨22 + i.val, by omega⟩) (o2 d ⟨22 + i.val, by omega⟩)) <|
  loop 11 (fun i => await (recvS (n4a i)) (o4a d i) (o4a d i)) <|
  loop 10 (fun i => await (recvS (n4b i)) (o4b d i) (o4b d i)) <|
  stored (ob d 14) (par 14) <| stored (ob d 15) (par 15) <|
  loop 32 (fun i => await (sendS (n1 i)) (o1 d i) (x1 d i)) <|
  loop 11 (fun i => await (sendS (n1d i)) (o1d d i) (x1d d i)) <|
  loop 32 (fun i => await (sendS (n2 i)) (o2 d i) (o2 d i)) <|
  loop 32 (fun i => await (sendS (n3 i)) (o2 d i) (o2 d i)) <|
  loop 11 (fun i => await (sendS (n4a i)) (o4a d i) (o4a d i)) <|
  loop 10 (fun i => await (sendS (n4b i)) (o4b d i) (o4b d i)) <|
  .ret ⟨⟩

/-- The body: read which device this is, then do that device's part. -/
def whole : P F := .op .deviceId fun d => body d

/-- The body as printed is the body written with loops. -/
theorem body_eq (t : Fin cfg0.N) : bodyAt0 (F := F) t = whole := by
  chain_rfl

end Cert.KernelIdeal.Run
end
-- ==== Proof.Places.lean ====
/-
Where the chunks lie.

The eight devices are the corners of a cube: device `c` has the coordinates `x = c / 4`, `y = c / 2 % 2` and
`z = c % 2`. The result has 256 chunks of 128 rows. The two devices that differ only in `y` hold the two halves
of the whole array, so a device copies the 128 chunks of its own half from its own block of `x` (as 16 blocks of
1024 rows) and receives the 128 chunks of the other half, one by each of 128 transfers.

This file says which chunk each transfer carries, to whom, and which device's block of `x` a chunk is copied from;
that the 16 blocks and the 128 chunks make up the result; and what a transfer leaves at its place.
-/
module

public import proofs.«01_k».proof.Proof.Program
public import Idealize.ShloMosaic.Lib.Pipeline.ValueKit.Geometry

@[expose] public section

noncomputable section

namespace Cert.KernelIdeal.Run

open Cert.KernelIdeal Cert.KernelIdeal.Gen
open Idealize.ShloMosaic Idealize.ShloMosaic.TcCoe Idealize.ShloMosaic.ValueKit
open Idealize.SL Idealize.SL.Sem

variable {F : FTy → Type} [FloatOps F]

/-! ## The three neighbours -/

/-- The neighbour along `y` (`a = 0`), along `x` (`a = 1`), along `z` (`a = 2`). -/
def nbr (a : Fin 3) (c : Dev nD) : Dev nD :=
  ⟨c.val ^^^ (if a.val = 0 then 2 else if a.val = 1 then 4 else 1), by revert a c; decide⟩

theorem nbr_nbr (a : Fin 3) (c : Dev nD) : nbr a (nbr a c) = c := by revert a c; decide

theorem toY_eq (c : Dev nD) : toY c = nbr 0 c := by
  refine Fin.ext ((k0_dev1_eq c).trans ?_); revert c; decide
theorem toX_eq (c : Dev nD) : toX c = nbr 1 c := by
  refine Fin.ext ((k0_dev2_eq c).trans ?_); revert c; decide
theorem toZ_eq (c : Dev nD) : toZ c = nbr 2 c := by
  refine Fin.ext ((k0_dev3_eq c).trans ?_); revert c; decide

/-- The direction the transfer `k` goes. -/
def dir (k : Fin 128) : Fin 3 :=
  if k.val < 43 then 0 else if k.val < 75 then 1 else if k.val < 107 then 2 else if k.val < 118 then 1 else 2

/-- The device that device `c` sends its transfer `k` to. -/
abbrev tgt (k : Fin 128) (c : Dev nD) : Dev nD := nbr (dir k) c

theorem tgt_tgt (k : Fin 128) (c : Dev nD) : tgt k (tgt k c) = c := nbr_nbr _ _

/-! ## The chunks -/

/-- The quarter of the other half that the transfer `k` brings a piece of. -/
def quarter (c k : ℕ) : ℕ :=
  if k < 32 then 2 * (c / 4) + c % 2
  else if k < 43 then 3 - (2 * (c / 4) + c % 2)
  else if k < 75 then 2 * (1 - c / 4) + c % 2
  else if k < 107 then 2 * (c / 4) + (1 - c % 2)
  else 3 - (2 * (c / 4) + c % 2)

/-- Which of the quarter's 32 chunks it brings. -/
def piece (k : ℕ) : ℕ :=
  if k < 32 then k else if k < 43 then k - 32 else if k < 75 then k - 43 else if k < 107 then k - 75 else k - 96

/-- The chunk of the result that the transfer `k` brings to device `c`. -/
def blk (c : Dev nD) (k : Fin 128) : Fin 256 :=
  ⟨128 * (1 - c.val / 2 % 2) + 32 * quarter c.val k.val + piece k.val, by revert c k; decide +kernel⟩

/-- The device whose block of `x` chunk `b` of device `c`'s result is copied from. -/
def org (c : Dev nD) (b : Fin 256) : Dev nD :=
  if b.val / 128 = c.val / 2 % 2 then c
  else if b.val % 128 / 32 = 2 * (c.val / 4) + c.val % 2 then nbr 0 c
  else if b.val % 128 / 32 = 2 * (1 - c.val / 4) + c.val % 2 then nbr 0 (nbr 1 c)
  else if b.val % 128 / 32 = 2 * (c.val / 4) + (1 - c.val % 2) then nbr 0 (nbr 2 c)
  else if b.val % 32 < 11 then nbr 0 c
  else nbr 0 (nbr 1 (nbr 2 c))

/-- The transfer that brings chunk `b` of the other half. -/
def via (c : Dev nD) (b : Fin 256) : Fin 128 :=
  if b.val % 128 / 32 = 2 * (c.val / 4) + c.val % 2 then ⟨b.val % 32, by omega⟩
  else if b.val % 128 / 32 = 2 * (1 - c.val / 4) + c.val % 2 then ⟨43 + b.val % 32, by omega⟩
  else if b.val % 128 / 32 = 2 * (c.val / 4) + (1 - c.val % 2) then ⟨75 + b.val % 32, by omega⟩
  else if b.val % 32 < 11 then ⟨32 + b.val % 32, by omega⟩
  else ⟨96 + b.val % 32, by omega⟩

theorem via_blk (c : Dev nD) (k : Fin 128) : via c (blk c k) = k := by revert c k; decide +kernel
theorem blk_via (c : Dev nD) (b : Fin 256) (h : b.val / 128 ≠ c.val / 2 % 2) : blk c (via c b) = b := by
  revert c b; decide +kernel
theorem blk_half (c : Dev nD) (k : Fin 128) : (blk c k).val / 128 = 1 - c.val / 2 % 2 := by revert c k; decide +kernel

theorem blk_injective (c : Dev nD) : Function.Injective (blk c) := fun k k' h => by
  rw [← via_blk c k, h, via_blk]

/-- A chunk of the own half is copied from the own block of `x`. -/
theorem org_own (c : Dev nD) (b : Fin 256) (h : b.val / 128 = c.val / 2 % 2) : org c b = c := if_pos h

/-- The first 43 transfers carry chunks of the sender's own block of `x`. -/
theorem org_first (c : Dev nD) (k : Fin 128) (h : k.val < 43) : org (tgt k c) (blk (tgt k c) k) = c := by
  revert c k; decide +kernel
/-- The others carry chunks that are the same in the sender's result as in the receiver's. -/
theorem org_relay (c : Dev nD) (k : Fin 128) (h : ¬ k.val < 43) :
    org (tgt k c) (blk (tgt k c) k) = org c (blk (tgt k c) k) := by
  revert c k; decide +kernel

/-- The transfer that brought the sender the chunk it sends on as the transfer `k`. -/
def source (k : Fin 128) : Fin 128 :=
  ⟨if k.val < 75 then k.val - 43 else if k.val < 107 then k.val - 75 else if k.val < 118 then k.val - 21 else k.val - 53, by
    split_ifs <;> omega⟩
theorem blk_source (c : Dev nD) (k : Fin 128) (h : ¬ k.val < 43) : blk c (source k) = blk (tgt k c) k := by
  revert c k; decide +kernel

/-! ## The places of the printed transfers -/

theorem oAt_congr {off off' : Fin 2 → ℕ} (e : off = off') (h h') : oAt off h = oAt off' h' := by subst e; rfl
theorem xAt_congr {off off' : Fin 2 → ℕ} (e : off = off') (h h') : xAt off h = xAt off' h' := by subst e; rfl
theorem oBlk_congr {off off' : Fin 2 → ℕ} (e : off = off') (h h') : oBlk off h = oBlk off' h' := by subst e; rfl

theorem chunk_inb (b : Fin 256) : ∀ a, (![128 * b.val, 0] : Fin 2 → ℕ) a + S128x1024.size a ≤ S32768x1024.size a := by
  revert b; decide
theorem xchunk_inb (b : Fin 256) : ∀ a, (![128 * (b.val % 128), 0] : Fin 2 → ℕ) a + S128x1024.size a ≤ S16384x1024.size a := by
  revert b; decide
theorem block_inb (b : Fin 32) : ∀ a, (![1024 * b.val, 0] : Fin 2 → ℕ) a + S1024x1024.size a ≤ S32768x1024.size a := by
  revert b; decide

/-- Chunk `b` of the result. -/
abbrev oC (b : Fin 256) := oAt ![128 * b.val, 0] (chunk_inb b)
/-- The rows of `x` that are chunk `b` of the whole array, on a device that holds them. -/
abbrev xC (b : Fin 256) := xAt ![128 * (b.val % 128), 0] (xchunk_inb b)
/-- Block `k` of the half `y` of the result. -/
def own (c : Dev nD) (k : Fin 16) : Fin 32 := ⟨16 * (c.val / 2 % 2) + k.val, by omega⟩
/-- Block `b` of 1024 rows of the result. -/
abbrev oB (b : Fin 32) := oBlk ![1024 * b.val, 0] (block_inb b)

/-- Two offsets in the same column are equal when their rows are. -/
theorem vec_congr {a b : ℕ} (h : a = b) : (![a, 0] : Fin 2 → ℕ) = ![b, 0] := by rw [h]

theorem o1_eq (c : Dev nD) (i : Fin 32) : o1 c i = oC (blk (tgt (n1 i) c) (n1 i)) :=
  oAt_congr ((k0_off1_eq c i).trans (vec_congr (by revert c i; decide +kernel))) _ _
theorem x1_eq (c : Dev nD) (i : Fin 32) : x1 c i = xC (blk (tgt (n1 i) c) (n1 i)) :=
  xAt_congr ((k0_off2_eq c i).trans (vec_congr (by revert c i; decide +kernel))) _ _
theorem o1d_eq (c : Dev nD) (i : Fin 11) : o1d c i = oC (blk (tgt (n1d i) c) (n1d i)) :=
  oAt_congr ((k0_off3_eq c i).trans (vec_congr (by revert c i; decide +kernel))) _ _
theorem x1d_eq (c : Dev nD) (i : Fin 11) : x1d c i = xC (blk (tgt (n1d i) c) (n1d i)) :=
  xAt_congr ((k0_off4_eq c i).trans (vec_congr (by revert c i; decide +kernel))) _ _
theorem o2_eq (c : Dev nD) (i : Fin 32) : o2 c i = oC (blk (tgt (n2 i) c) (n2 i)) :=
  oAt_congr ((k0_off5_eq c i).trans (vec_congr (by revert c i; decide +kernel))) _ _
theorem o3_eq (c : Dev nD) (i : Fin 32) : o2 c i = oC (blk (tgt (n3 i) c) (n3 i)) :=
  oAt_congr ((k0_off5_eq c i).trans (vec_congr (by revert c i; decide +kernel))) _ _
theorem o4a_eq (c : Dev nD) (i : Fin 11) : o4a c i = oC (blk (tgt (n4a i) c) (n4a i)) :=
  oAt_congr ((k0_off7_eq c i).trans (vec_congr (by revert c i; decide +kernel))) _ _
theorem o4b_eq (c : Dev nD) (i : Fin 10) : o4b c i = oC (blk (tgt (n4b i) c) (n4b i)) :=
  oAt_congr ((k0_off8_eq c i).trans (vec_congr (by revert c i; decide +kernel))) _ _
theorem ob_eq (c : Dev nD) (k : Fin 16) : ob c k = oB (own c k) :=
  oBlk_congr ((k0_off6_eq c k).trans (vec_congr (by revert c k; decide +kernel))) _ _

/-! ## The 16 blocks and the 128 chunks make up the result -/

abbrev OIdx : Type := S32768x1024.Idx
abbrev XIdx : Type := S16384x1024.Idx

theorem mem_chunk (b : Fin 256) (i : OIdx) : i ∈ (oC b).view.set ↔ (i 0).val / 128 = b.val := by
  refine mem_set_slice_whole_iff main_v1 _ i (Rect.mem_set_unit.trans ?_)
  have h1 : (i 1).val < 1024 := (i 1).isLt
  constructor
  · intro h
    have h0 : 128 * b.val ≤ (i 0).val ∧ (i 0).val < 128 * b.val + 128 := h 0
    omega
  · intro h a
    match a with
    | 0 => show 128 * b.val ≤ (i 0).val ∧ (i 0).val < 128 * b.val + 128; omega
    | 1 => show 0 ≤ (i 1).val ∧ (i 1).val < 0 + 1024; omega

theorem mem_block (b : Fin 32) (i : OIdx) : i ∈ (oB b).view.set ↔ (i 0).val / 1024 = b.val := by
  refine mem_set_slice_whole_iff main_v1 _ i (Rect.mem_set_unit.trans ?_)
  have h1 : (i 1).val < 1024 := (i 1).isLt
  constructor
  · intro h
    have h0 : 1024 * b.val ≤ (i 0).val ∧ (i 0).val < 1024 * b.val + 1024 := h 0
    omega
  · intro h a
    match a with
    | 0 => show 1024 * b.val ≤ (i 0).val ∧ (i 0).val < 1024 * b.val + 1024; omega
    | 1 => show 0 ≤ (i 1).val ∧ (i 1).val < 0 + 1024; omega

/-- The place of part `t` of device `c`'s result: a block of its own half, or a chunk of the other. -/
def part (c : Dev nD) : Fin 16 ⊕ Fin 128 → Finset OIdx
  | .inl k => (oB (own c k)).view.set
  | .inr k => (oC (blk c k)).view.set

/-- The part that row `r` of device `c`'s result lies in. -/
def partOf (c : Dev nD) (i : OIdx) : Fin 16 ⊕ Fin 128 :=
  if (i 0).val / 16384 = c.val / 2 % 2 then .inl ⟨(i 0).val / 1024 % 16, by omega⟩
  else .inr (via c ⟨(i 0).val / 128, by have : (i 0).val < 32768 := (i 0).isLt; omega⟩)

theorem mem_part (c : Dev nD) (i : OIdx) (t : Fin 16 ⊕ Fin 128) : i ∈ part c t ↔ partOf c i = t := by
  have hi : (i 0).val < 32768 := (i 0).isLt
  have hc : c.val < 8 := c.isLt
  match t with
  | .inl k =>
    refine (mem_block _ i).trans ?_
    unfold partOf own
    have hk := k.isLt
    split_ifs with h
    · rw [Sum.inl.injEq, Fin.ext_iff]
      show (i 0).val / 1024 = 16 * (c.val / 2 % 2) + k.val ↔ (i 0).val / 1024 % 16 = k.val
      omega
    · refine iff_of_false (fun h' => h ?_) (fun h' => by cases h')
      have : (i 0).val / 1024 = 16 * (c.val / 2 % 2) + k.val := h'
      omega
  | .inr k =>
    refine (mem_chunk _ i).trans ?_
    unfold partOf
    have hb := blk_half c k
    split_ifs with h
    · refine iff_of_false (fun h' => ?_) (fun h' => by cases h')
      omega
    · rw [Sum.inr.injEq]
      constructor
      · intro h'
        have e : (⟨(i 0).val / 128, by omega⟩ : Fin 256) = blk c k := Fin.ext h'
        rw [e, via_blk]
      · intro h'
        have e := blk_via c ⟨(i 0).val / 128, by omega⟩ (by show (i 0).val / 128 / 128 ≠ _; omega)
        rw [h'] at e
        exact (congrArg Fin.val e).symm

theorem part_disjoint (c : Dev nD) (t t' : Fin 16 ⊕ Fin 128) (h : t ≠ t') : Disjoint (part c t) (part c t') :=
  Finset.disjoint_left.mpr fun i hi hi' => h (((mem_part c i t).mp hi).symm.trans ((mem_part c i t').mp hi'))

theorem part_cover (c : Dev nD) : Finset.univ.biUnion (part c) = Finset.univ :=
  Finset.eq_univ_iff_forall.mpr fun i => Finset.mem_biUnion.mpr ⟨partOf c i, Finset.mem_univ _, (mem_part c i _).mpr rfl⟩

/-! ## What the result holds at the end -/

variable (m : (ℓ : Loc nD τ sig) → Buf (Elt F) ℓ)

/-- The index in a device's block of `x` of an index of the whole array. -/
def xIdx (i : OIdx) : XIdx := fun a => match a with
  | 0 => ⟨(i 0).val % 16384, Nat.mod_lt _ (by decide)⟩
  | 1 => ⟨(i 1).val, (i 1).isLt⟩

/-- The contents of device `c`'s block of `x`. -/
def xOf (c : Dev nD) : (main_arg0 : Ref sig .tc).ty.Contents (Elt F) := m ((c : Thread nD τ).loc main_arg0)

/-- The chunk a row lies in. -/
def chunkOf (i : OIdx) : Fin 256 := ⟨(i 0).val / 128, by have : (i 0).val < 32768 := (i 0).isLt; omega⟩

/-- What device `c`'s result holds at the end: each chunk from the block of `x` it was copied from. -/
def fin (c : Dev nD) : (main_v1 : Ref sig .tc).ty.Contents (Elt F) := fun i => xOf m (org c (chunkOf i)) (xIdx i)

/-- A chunk written into the result from the sender's block of `x` is the receiver's chunk. -/
theorem land_first (t d : Dev nD) (b : Fin 256) (h : org t b = d) (fd : (main_v1 : Ref sig .tc).ty.Contents (Elt F))
    (i : OIdx) (hi : i ∈ (oC b).view.set) :
    (oC b).view.write (Elt F) fd ((xC b).view.read (Elt F) (xOf m d)) Finset.univ i = fin m t i := by
  have hb := (mem_chunk b i).mp hi
  obtain ⟨j, -, rfl⟩ := Finset.mem_map.mp hi
  rw [View.write_emb_of_mem _ _ (Finset.mem_univ _)]
  have e : chunkOf ((oC b).view.emb j) = b := Fin.ext hb
  show xOf m d ((xC b).view.emb j) = xOf m (org t (chunkOf ((oC b).view.emb j))) (xIdx ((oC b).view.emb j))
  rw [e, h]
  refine congrArg _ (funext fun a => Fin.ext ?_)
  have hx := view_emb_slice_whole_unit_val main_arg0 ![128 * (b.val % 128), 0] S128x1024.size (xchunk_inb b) j a
  refine hx.trans ?_
  match a with
  | 0 =>
    have ho : ((oC b).view.emb j 0).val = 128 * b.val + (j 0).val :=
      view_emb_slice_whole_unit_val main_v1 ![128 * b.val, 0] S128x1024.size (chunk_inb b) j 0
    have hj : (j 0).val < 128 := (j 0).isLt
    show 128 * (b.val % 128) + (j 0).val = ((oC b).view.emb j 0).val % 16384
    rw [ho]
    omega
  | 1 => exact (view_emb_slice_whole_unit_val main_v1 ![128 * b.val, 0] S128x1024.size (chunk_inb b) j 1).symm

/-- A chunk sent on from one result into another is the receiver's chunk if it is the same in both. -/
theorem land_relay (t d : Dev nD) (b : Fin 256) (h : org t b = org d b) (fd : (main_v1 : Ref sig .tc).ty.Contents (Elt F))
    (i : OIdx) (hi : i ∈ (oC b).view.set) :
    (oC b).view.write (Elt F) fd ((oC b).view.read (Elt F) (fin m d)) Finset.univ i = fin m t i := by
  have hb := (mem_chunk b i).mp hi
  obtain ⟨j, -, rfl⟩ := Finset.mem_map.mp hi
  rw [View.write_emb_of_mem _ _ (Finset.mem_univ _)]
  have e : chunkOf ((oC b).view.emb j) = b := Fin.ext hb
  show xOf m (org d (chunkOf ((oC b).view.emb j))) (xIdx ((oC b).view.emb j))
    = xOf m (org t (chunkOf ((oC b).view.emb j))) (xIdx ((oC b).view.emb j))
  rw [e, h]

/-- A block of the own half written from the own block of `x`. -/
theorem land_own (c : Dev nD) (k : Fin 16) (fd : (main_v1 : Ref sig .tc).ty.Contents (Elt F))
    (i : OIdx) (hi : i ∈ (oB (own c k)).view.set) :
    (oB (own c k)).view.write (Elt F) fd ((xb k).view.read (Elt F) (xOf m c)) Finset.univ i = fin m c i := by
  have hb := (mem_block _ i).mp hi
  obtain ⟨j, -, rfl⟩ := Finset.mem_map.mp hi
  rw [View.write_emb_of_mem _ _ (Finset.mem_univ _)]
  have hk := k.isLt
  have hb' : ((oB (own c k)).view.emb j 0).val / 1024 = 16 * (c.val / 2 % 2) + k.val := hb
  have e : org c (chunkOf ((oB (own c k)).view.emb j)) = c := org_own _ _ (by
    show ((oB (own c k)).view.emb j 0).val / 128 / 128 = _
    omega)
  show xOf m c ((xb k).view.emb j) = xOf m (org c (chunkOf ((oB (own c k)).view.emb j))) (xIdx ((oB (own c k)).view.emb j))
  rw [e]
  refine congrArg _ (funext fun a => Fin.ext ?_)
  have hx := view_emb_slice_whole_unit_val main_arg0 ![1024 * k.val, 0] S1024x1024.size (xblk_inb k) j a
  refine hx.trans ?_
  match a with
  | 0 =>
    have ho : ((oB (own c k)).view.emb j 0).val = 1024 * (16 * (c.val / 2 % 2) + k.val) + (j 0).val :=
      view_emb_slice_whole_unit_val main_v1 ![1024 * (own c k).val, 0] S1024x1024.size (block_inb (own c k)) j 0
    have hj : (j 0).val < 1024 := (j 0).isLt
    show 1024 * k.val + (j 0).val = ((oB (own c k)).view.emb j 0).val % 16384
    rw [ho]
    omega
  | 1 => exact (view_emb_slice_whole_unit_val main_v1 ![1024 * (own c k).val, 0] S1024x1024.size (block_inb (own c k)) j 1).symm

end Cert.KernelIdeal.Run
end
-- ==== Proof.Schedule.lean ====
/-
The protocol.

Every semaphore of a device is one cell, used in rounds; each round of a cell has duties, each paid once, and what is
paid in comes out at the wait that ends the round:

* the start-up semaphore has one round of three units, one from each neighbour; the neighbour pays in the room in
  its own result for the chunks the waiting device will send it;
* the semaphore of an arriving transfer has one round; the sender pays in the chunk as it lies in the receiver's result;
* the semaphore of a leaving transfer has one round, which carries nothing (the share of the source that was lent
  to the transfer is not asked back);
* the semaphores of a staging block have eight rounds, one for each of its eight blocks: the copy in pays in the
  staging block holding a block of `x`, the copy out pays in the block of the result and the staging block.

The waits are ordered by levels: copies inside a device at 0, the start-up semaphore at 1, then the transfers in
the order in which a chunk goes from device to device at 2, 3, 4. A device that waits owes only what lies above.
-/
module

public import proofs.«01_k».proof.Proof.Places
public import proofs.«01_k».proof.Proof.Gen.KernelIdeal.Launch
public import Idealize.ShloMosaic.Lib.Rounds
public import Idealize.ShloMosaic.Lib.Ring
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties are named by the three directions (a cell with one duty has the duty 0). -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- What a semaphore is for. -/
inductive Use where
  | bar
  | snd (k : Fin 128)
  | rcv (k : Fin 128)
  | ins (s : Fin 2)
  | outs (s : Fin 2)

/-- What each semaphore is for. -/
def use : SemLoc sig → Use
  | .reg _ => .bar
  | .dma q =>
    if h : q.val < 128 then .snd ⟨q.val, h⟩
    else if h : q.val < 256 then .rcv ⟨q.val - 128, by omega⟩
    else if h : q.val < 258 then .ins ⟨q.val - 256, by omega⟩
    else .outs ⟨(q.val - 258) % 2, by omega⟩

/-- The semaphore of a use. -/
abbrev semOf : Use → SemLoc sig
  | .bar => .reg barS
  | .snd k => .dma (sendS k)
  | .rcv k => .dma (recvS k)
  | .ins s => .dma (inS s)
  | .outs s => .dma (outS s)

theorem sendS_val (k : Fin 128) : (sendS k).val = k.val := by revert k; decide +kernel
theorem recvS_val (k : Fin 128) : (recvS k).val = 128 + k.val := by revert k; decide +kernel
theorem inS_val (s : Fin 2) : (inS s).val = 256 + s.val := by revert s; decide +kernel
theorem outS_val (s : Fin 2) : (outS s).val = 258 + s.val := by revert s; decide +kernel

theorem use_semOf (u : Use) : use (semOf u) = u := by
  match u with
  | .bar => rfl
  | .snd k =>
    show use (.dma (sendS k)) = _
    unfold use; simp only [sendS_val, k.isLt, dite_true]
  | .rcv k =>
    show use (.dma (recvS k)) = _
    have := k.isLt
    unfold use; simp only [recvS_val]
    rw [dif_neg (by omega), dif_pos (by omega)]; congr 1; exact Fin.ext (by show 128 + k.val - 128 = k.val; omega)
  | .ins s =>
    show use (.dma (inS s)) = _
    have := s.isLt
    unfold use; simp only [inS_val]
    rw [dif_neg (by omega), dif_neg (by omega), dif_pos (by omega)]; congr 1; exact Fin.ext (by show 256 + s.val - 256 = s.val; omega)
  | .outs s =>
    show use (.dma (outS s)) = _
    have := s.isLt
    unfold use; simp only [outS_val]
    rw [dif_neg (by omega), dif_neg (by omega), dif_neg (by omega)]; congr 1; exact Fin.ext (by show (258 + s.val - 258) % 2 = s.val; omega)

theorem semOf_injective : Function.Injective semOf := fun u v h => by rw [← use_semOf u, h, use_semOf]

/-- The cell of a use on device `c`. -/
abbrev cell (c : Dev nD) (u : Use) : GSem nD τ sig := ((c : Thread nD τ), semOf u)

/-! ## The amounts -/

/-- What a transfer of a chunk adds to its semaphores. -/
def N : ℕ := (oC 0).view.dmaCredit
/-- What a copy into a staging block adds. -/
def NI : ℕ := (slot 0).view.dmaCredit
/-- What a copy out of one adds. -/
def NO : ℕ := (oB 0).view.dmaCredit

theorem N_pos : 0 < N := View.dmaCredit_pos _ (by decide)
theorem NI_pos : 0 < NI := View.dmaCredit_pos _ (by decide)
theorem NO_pos : 0 < NO := View.dmaCredit_pos _ (by decide)

theorem credit_oC (b : Fin 256) : (oC b).view.dmaCredit = N := rfl
theorem credit_xC (b : Fin 256) : (xC b).view.dmaCredit = N := rfl
theorem credit_slot (s : Fin 2) : (slot s).view.dmaCredit = NI := rfl
theorem credit_oB (b : Fin 32) : (oB b).view.dmaCredit = NO := rfl

/-! ## What is passed on -/

/-- Chunk `b` of device `c`'s result, as it is at the end. -/
def chunk (c : Dev nD) (b : Fin 256) (q : PosShare TreeShare) : sProp 𝕄 :=
  (oC b).view.loc (c : Thread nD τ) ↦[(oC b).view.set]{q} (fin m c : Buf (Elt F) ((oC b).view.loc (c : Thread nD τ)))
/-- Room for it. -/
def room (c : Dev nD) (b : Fin 256) : sProp 𝕄 :=
  iprop(∃ f : Buf (Elt F) ((oC b).view.loc (c : Thread nD τ)), (oC b).view.loc (c : Thread nD τ) ↦[(oC b).view.set]{fullShare} f)
/-- Block `k` of device `c`'s own half of its result, as it is at the end. -/
def block (c : Dev nD) (k : Fin 16) : sProp 𝕄 :=
  (oB (own c k)).view.loc (c : Thread nD τ) ↦[(oB (own c k)).view.set]{fullShare}
    (fin m c : Buf (Elt F) ((oB (own c k)).view.loc (c : Thread nD τ)))
/-- Room for it. -/
def blockRoom (c : Dev nD) (k : Fin 16) : sProp 𝕄 :=
  iprop(∃ f : Buf (Elt F) ((oB (own c k)).view.loc (c : Thread nD τ)),
    (oB (own c k)).view.loc (c : Thread nD τ) ↦[(oB (own c k)).view.set]{fullShare} f)
/-- A staging block. -/
def slotRoom (c : Dev nD) (s : Fin 2) : sProp 𝕄 :=
  iprop(∃ f : Buf (Elt F) ((slot s).view.loc (c : Thread nD τ)), (slot s).view.loc (c : Thread nD τ) ↦[(slot s).view.set]{fullShare} f)
/-- A staging block holding block `k` of `x`. -/
def slotX (c : Dev nD) (s : Fin 2) (k : Fin 16) : sProp 𝕄 :=
  iprop(∃ f : Buf (Elt F) ((slot s).view.loc (c : Thread nD τ)),
    ⌜(slot s).view.read (Elt F) f = (xb k).view.read (Elt F) (xOf m c)⌝
      ∗ (slot s).view.loc (c : Thread nD τ) ↦[(slot s).view.set]{fullShare} f)

/-- The block that goes through staging block `s` in round `r`. -/
def turn (s : Fin 2) (r : ℕ) : Fin 16 := ⟨(2 * r + s.val) % 16, by omega⟩

theorem turn_par (k : Fin 16) : turn (par k) (k.val / 2) = k := by revert k; decide

/-- The transfers that go in direction `a`. -/
def going (a : Fin 3) : Finset (Fin 128) := Finset.univ.filter fun k => dir k = a

/-- What the neighbour in direction `a` pays in at device `c`'s start-up semaphore. -/
def barPay (c : Dev nD) (a : Fin 3) : sProp 𝕄 := bigSep (going a) fun k => room (F := F) (nbr a c) (blk (nbr a c) k)

instance chunk_storable (c : Dev nD) (b) (q) : BI.Storable (upEmb : UEmb _ 𝕄) (chunk m c b q) := by unfold chunk; infer_instance
instance room_storable (c : Dev nD) (b) : BI.Storable (upEmb : UEmb _ 𝕄) (room (F := F) c b) := by unfold room; infer_instance
instance block_storable (c : Dev nD) (k) : BI.Storable (upEmb : UEmb _ 𝕄) (block m c k) := by unfold block; infer_instance
instance slotRoom_storable (c : Dev nD) (s) : BI.Storable (upEmb : UEmb _ 𝕄) (slotRoom (F := F) c s) := by unfold slotRoom; infer_instance
instance slotX_storable (c : Dev nD) (s k) : BI.Storable (upEmb : UEmb _ 𝕄) (slotX m c s k) := by unfold slotX; infer_instance
instance barPay_storable (c : Dev nD) (a) : BI.Storable (upEmb : UEmb _ 𝕄) (barPay (F := F) c a) := by unfold barPay; infer_instance

/-! ## The schedule -/

/-- The duties of round `r`. -/
def dutiesOf (u : Use) (r : ℕ) : Finset (Fin 3) := match u with
  | .bar => if r = 0 then Finset.univ else ∅
  | .snd _ => if r = 0 then {0} else ∅
  | .rcv _ => if r = 0 then {0} else ∅
  | .ins _ => if r < 8 then {0} else ∅
  | .outs _ => if r < 8 then {0} else ∅

/-- What each pays. -/
def amountOf : Use → ℕ
  | .bar => 1
  | .snd _ => N
  | .rcv _ => N
  | .ins _ => NI
  | .outs _ => NO

theorem amountOf_pos (u : Use) : 0 < amountOf u := by
  match u with
  | .bar => exact Nat.one_pos
  | .snd _ => exact N_pos
  | .rcv _ => exact N_pos
  | .ins _ => exact NI_pos
  | .outs _ => exact NO_pos

/-- What each pays in. -/
def payOf (c : Dev nD) (r : ℕ) (d : Fin 3) : Use → sProp 𝕄
  | .bar => barPay c d
  | .snd _ => iprop(emp)
  | .rcv k => chunk m c (blk c k) fullShare
  | .ins s => slotX m c s (turn s r)
  | .outs s => iprop(block m c (turn s r) ∗ slotRoom c s)

/-- The protocol. -/
def sched : Rounds.Schedule (GSem nD τ sig) (Fin 3) 𝕄 where
  duties g r := dutiesOf (use g.2) r
  unitless _ := False
  amount g _ _ := amountOf (use g.2)
  payload g r d := payOf m g.1.1 r d (use g.2)
  amount_pos g _ _ _ := amountOf_pos _

instance sched_storable (g : GSem nD τ sig) (r : ℕ) (d : Fin 3) : BI.Storable (upEmb : UEmb _ 𝕄) ((sched m).payload g r d) := by
  show BI.Storable upEmb (payOf m g.1.1 r d (use g.2))
  generalize use g.2 = u
  match u with
  | .bar => exact barPay_storable _ _
  | .snd _ => show BI.Storable upEmb iprop(emp); infer_instance
  | .rcv k => exact chunk_storable m _ _ _
  | .ins s => exact slotX_storable m _ _ _
  | .outs s => show BI.Storable upEmb iprop(block m g.1.1 (turn s r) ∗ slotRoom g.1.1 s); infer_instance

theorem duties_eq (c : Dev nD) (u : Use) (r : ℕ) : (sched m).duties (cell c u) r = dutiesOf u r := by
  show dutiesOf (use (semOf u)) r = _; rw [use_semOf]
theorem amount_eq (c : Dev nD) (u : Use) (r : ℕ) (d : Fin 3) : (sched m).amount (cell c u) r d = amountOf u := by
  show amountOf (use (semOf u)) = _; rw [use_semOf]
theorem payload_eq (c : Dev nD) (u : Use) (r : ℕ) (d : Fin 3) : (sched m).payload (cell c u) r d = payOf m c r d u := by
  show payOf m c r d (use (semOf u)) = _; rw [use_semOf]

theorem expect_eq (c : Dev nD) (u : Use) (r : ℕ) : (sched m).expect (cell c u) r = (dutiesOf u r).card * amountOf u := by
  unfold Schedule.expect Schedule.amountOf
  rw [duties_eq, Finset.sum_congr rfl fun d _ => amount_eq m c u r d, Finset.sum_const, smul_eq_mul]

/-- What comes out at the wait that ends a round. -/
theorem rest_eq (c : Dev nD) (u : Use) (r : ℕ) :
    bigSep ((sched m).duties (cell c u) r \ ∅) (fun d => (sched m).payload (cell c u) r d)
      = bigSep (dutiesOf u r) fun d => payOf m c r d u := by
  rw [Finset.sdiff_empty, duties_eq]
  exact bigSep_congr fun d _ => payload_eq m c u r d

/-- The rounds of a cell. -/
def rounds : Use → ℕ
  | .bar => 1
  | .snd _ => 1
  | .rcv _ => 1
  | .ins _ => 8
  | .outs _ => 8

theorem duties_end (c : Dev nD) (u : Use) (r : ℕ) (h : rounds u ≤ r) : (sched m).duties (cell c u) r = ∅ := by
  rw [duties_eq]
  match u with
  | .bar => exact if_neg (fun h' => by subst h'; exact Nat.not_succ_le_zero _ h)
  | .snd _ => exact if_neg (fun h' => by subst h'; exact Nat.not_succ_le_zero _ h)
  | .rcv _ => exact if_neg (fun h' => by subst h'; exact Nat.not_succ_le_zero _ h)
  | .ins _ => exact if_neg (Nat.not_lt.mpr h)
  | .outs _ => exact if_neg (Nat.not_lt.mpr h)

/-! ## What a device owes, and the levels -/

/-- What device `c` owes for the transfers in `S`. -/
def owed (S : Finset (Fin 128)) (c : Dev nD) : CellTallies nD τ sig Unit :=
  ∑ k ∈ S, tallyAt (cell (tgt k c) (.rcv k)) () N

/-- What it owes at the start: every transfer, and a unit to each neighbour. -/
def O₀ (c : Dev nD) : CellTallies nD τ sig Unit :=
  owed Finset.univ c + tallyAt (cell (nbr 2 c) .bar) () 1 + tallyAt (cell (nbr 1 c) .bar) () 1 + tallyAt (cell (nbr 0 c) .bar) () 1

theorem owed_insert {S : Finset (Fin 128)} {k : Fin 128} (h : k ∉ S) (c : Dev nD) :
    owed (insert k S) c = owed S c + tallyAt (cell (tgt k c) (.rcv k)) () N := by
  unfold owed; rw [Finset.sum_insert h, add_comm]

theorem owed_empty (c : Dev nD) : owed ∅ c = 0 := Finset.sum_empty

theorem owed_pos {S : Finset (Fin 128)} {c : Dev nD} {g : GSem nD τ sig} {u : Unit} (h : 0 < owed S c g u) :
    ∃ k ∈ S, g = cell (tgt k c) (.rcv k) := by
  induction S using Finset.induction_on with
  | empty => rw [owed_empty] at h; exact absurd h (Nat.lt_irrefl 0)
  | insert k S hk ih =>
    rw [owed_insert hk, Pi.add_apply, Finsupp.add_apply, tallyAt_apply] at h
    by_cases h' : g = cell (tgt k c) (.rcv k) ∧ u = ()
    · exact ⟨k, Finset.mem_insert_self _ _, h'.1⟩
    · rw [if_neg h', Nat.add_zero] at h
      obtain ⟨k', hk', e⟩ := ih h
      exact ⟨k', Finset.mem_insert_of_mem hk', e⟩

def L (g : GSem nD τ sig) : Finset Unit := if g.1.2 = .tc then {()} else ∅

/-- The level of an arriving transfer. -/
def hop (k : Fin 128) : ℕ := if k.val < 43 then 2 else if k.val < 107 then 3 else 4

/-- The level of a cell. -/
def level : Use → ℕ
  | .bar => 1
  | .rcv k => hop k
  | _ => 0

def lv (g : GSem nD τ sig) (_ : Unit) : ℕ := level (use g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (u : Use) (i : Unit) : lv (cell c u) i = level u := by unfold lv; rw [use_semOf]

/-- A device may wait at a cell below all it owes. -/
theorem mayWait (c : Dev nD) (u : Use) (S : Finset (Fin 128)) (h : ∀ k ∈ S, level u < hop k) :
    (levAts L lv : sProp 𝕄) ⊢ MayWait (c : Thread nD τ) (semOf u) () (owed S c) :=
  MayOwe.of_cut (L := L) (lev := lv) (level u) (fun p hp => by rw [Finset.mem_singleton.mp hp, L_tc]; exact Finset.mem_singleton_self _)
    (fun g i hg => by obtain ⟨k, -, rfl⟩ := owed_pos hg; rw [L_tc]; exact Finset.mem_singleton_self _)
    (fun p hp => by rw [Finset.mem_singleton.mp hp]; exact (lv_cell c u ()).le)
    (fun g i hg => by obtain ⟨k, hk, rfl⟩ := owed_pos hg; rw [lv_cell]; exact h k hk)

end Cert.KernelIdeal.Run
end
-- ==== Proof.Steps.lean ====
/-
What a device holds while it runs, and each step of its body.

The 128 transfers a device sends and the 128 it receives are held as families over the number of the transfer: those
still to be sent and those under way, those still expected and those that have come. One step moves one number from one
family to another.

A share of the device's block of `x` is halved whenever a copy reads from it, and one half is lent for good: only
some share is kept. The same holds for the chunks that have come and are sent on.
-/
module

public import proofs.«01_k».proof.Proof.Schedule

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program `p` on device `c` runs safely, and ends with `Q`. -/
abbrev WP (c : Dev nD) (p : P F) (Q : PUnit → sProp 𝕄) : sProp 𝕄 :=
  wp frame (wpE (defs₀ (F := F)) 𝒱₀ (c : Thread nD τ) none) Set.univ p Q

/-! ## Families -/

theorem family_insert {α : Type} [DecidableEq α] {S : Finset α} {k : α} (h : k ∉ S) (Φ : α → sProp 𝕄) :
    bigSep (insert k S) Φ = iprop(Φ k ∗ bigSep S Φ) := bigSep_insert h
theorem family_erase {α : Type} [DecidableEq α] {S : Finset α} {k : α} (h : k ∈ S) (Φ : α → sProp 𝕄) :
    bigSep S Φ = iprop(Φ k ∗ bigSep (S.erase k) Φ) := bigSep_erase h
theorem family_elim {α : Type} [DecidableEq α] {S : Finset α} {k : α} (h : k ∈ S) (Φ : α → sProp 𝕄) :
    bigSep S Φ ⊢ Φ k := bigSep_elim h

/-! ## Loops -/

/-- A loop keeps an invariant that each of its steps keeps. -/
theorem wp_loop (c : Dev nD) (C : sProp 𝕄) [BI.Persistent C] (Q : PUnit → sProp 𝕄) (p : P F) (n : ℕ) (f : Fin n → P F → P F)
    (I : ℕ → sProp 𝕄)
    (h : ∀ (i : Fin n) (p : P F), iprop(C ∗ I i.val) ⊢ iprop((I (i.val + 1) -∗ WP c p Q) -∗ WP c (f i p) Q)) :
    iprop(C ∗ I 0) ⊢ iprop((I n -∗ WP c p Q) -∗ WP c (loop n f p) Q) := by
  induction n generalizing I with
  | zero =>
    iintro ⟨-, H⟩ Hk
    iapply Hk $$ H
  | succ n ih =>
    have h0 : iprop(C ∗ I 0) ⊢ iprop((I (0 + 1) -∗ WP c (loop n (fun i => f i.succ) p) Q)
        -∗ WP c (f 0 (loop n (fun i => f i.succ) p)) Q) := h 0 _
    iintro ⟨#HC, H⟩ Hk
    rw [show loop (n + 1) f p = f 0 (loop n (fun i => f i.succ) p) from rfl]
    iapply h0 $$ [H]
    · isplitr; · iexact HC
      iexact H
    iintro H
    iapply (ih (fun i => f i.succ) (fun i => I (i + 1)) (fun i p => h i.succ p)) $$ [H]
    · isplitr; · iexact HC
      iexact H
    iexact Hk

/-! ## Families over the numbers with a property -/

/-- The numbers below `n` with the property `p`. -/
def ks {n : ℕ} (p : ℕ → Prop) [DecidablePred p] : Finset (Fin n) := Finset.univ.filter fun k => p k.val

theorem mem_ks {n : ℕ} {p : ℕ → Prop} [DecidablePred p] {k : Fin n} : k ∈ ks (n := n) p ↔ p k.val := by
  unfold ks; rw [Finset.mem_filter]; exact ⟨fun h => h.2, fun h => ⟨Finset.mem_univ _, h⟩⟩

theorem ks_insert {n : ℕ} {p p' : ℕ → Prop} [DecidablePred p] [DecidablePred p'] (k : Fin n)
    (h : ∀ j < n, p j ↔ j = k.val ∨ p' j) : ks (n := n) p = insert k (ks p') := by
  ext j
  rw [Finset.mem_insert, mem_ks, mem_ks, h j.val j.isLt, Fin.ext_iff]

theorem ks_congr {n : ℕ} {p p' : ℕ → Prop} [DecidablePred p] [DecidablePred p']
    (h : ∀ j < n, p j ↔ p' j) : ks (n := n) p = ks p' := by
  ext j
  rw [mem_ks, mem_ks, h j.val j.isLt]

theorem ks_univ {n : ℕ} {p : ℕ → Prop} [DecidablePred p] (h : ∀ j < n, p j) : ks (n := n) p = Finset.univ :=
  Finset.eq_univ_iff_forall.mpr fun k => mem_ks.mpr (h k.val k.isLt)
theorem ks_empty {n : ℕ} {p : ℕ → Prop} [DecidablePred p] (h : ∀ j < n, ¬ p j) : ks (n := n) p = ∅ :=
  Finset.eq_empty_iff_forall_notMem.mpr fun k hk => h k.val k.isLt (mem_ks.mp hk)

theorem compl_insert {S S' : Finset (Fin 128)} {k : Fin 128} (h : S = insert k S') (hk : k ∉ S') :
    S'ᶜ = insert k Sᶜ ∧ k ∉ Sᶜ := by
  subst h
  constructor
  · ext j
    rw [Finset.mem_insert, Finset.mem_compl, Finset.mem_compl, Finset.mem_insert]
    by_cases e : j = k
    · subst e; exact iff_of_true hk (Or.inl rfl)
    · exact ⟨fun h' => Or.inr fun h'' => h''.elim e h', fun h' => h'.elim (fun h'' => absurd h'' e) (fun h'' h3 => h'' (Or.inr h3))⟩
  · rw [Finset.mem_compl, not_not]; exact Finset.mem_insert_self _ _

/-! ## What is shared by all devices -/

/-- The cells and the levels: every device may use them, at any time. -/
def ctx (K : Dev nD × SemLoc sig → ℕ) : sProp 𝕄 :=
  iprop((bigSep Finset.univ fun g : Dev nD × SemLoc sig => cellInv ER (sched m) (K g) ((g.1 : Thread nD τ), g.2))
    ∗ (bigSep Finset.univ fun g : Dev nD × SemLoc sig => reached ER ((g.1 : Thread nD τ), g.2) 0)
    ∗ levAts L lv)

instance ctx_persistent (K : Dev nD × SemLoc sig → ℕ) : BI.Persistent (ctx m K) := by unfold ctx; infer_instance

variable (K : Dev nD × SemLoc sig → ℕ)

theorem ctx_inv (c : Dev nD) (u : Use) : ctx m K ⊢ cellInv ER (sched m) (K (c, semOf u)) (cell c u) := by
  unfold ctx
  iintro ⟨H, -, -⟩
  iapply (family_elim (Finset.mem_univ (c, semOf u)) (fun g : Dev nD × SemLoc sig => cellInv ER (sched m) (K g) ((g.1 : Thread nD τ), g.2)))
  iexact H

theorem ctx_reached (c : Dev nD) (u : Use) : ctx m K ⊢ reached ER (cell c u) 0 := by
  unfold ctx
  iintro ⟨-, H, -⟩
  iapply (family_elim (Finset.mem_univ (c, semOf u)) (fun g : Dev nD × SemLoc sig => (reached ER ((g.1 : Thread nD τ), g.2) 0 : sProp 𝕄)))
  iexact H

theorem ctx_levels : ctx m K ⊢ levAts L lv := by
  unfold ctx
  iintro ⟨-, -, H⟩
  iexact H

/-! ## What one device holds -/

/-- What it owes for the transfers in `S`. -/
def ows (c : Dev nD) (S : Finset (Fin 128)) : sProp 𝕄 := iprop(∃ W, owes (c : Thread nD τ) (owed S c) W)

/-- Some share of its block of `x`. -/
def xs (c : Dev nD) : sProp 𝕄 :=
  iprop(∃ q, (xM.view.loc (c : Thread nD τ)) ↦[Finset.univ]{q} (xOf m c : Buf (Elt F) (xM.view.loc (c : Thread nD τ))))

/-- The transfers in `S` are still to be sent. -/
def todo (c : Dev nD) (S : Finset (Fin 128)) : sProp 𝕄 :=
  bigSep S fun k => iprop(atPos ER (cell c (.snd k)) 0 ∅ 0 ∗ dutyTok ER (cell c (.snd k)) 0 0
    ∗ dutyTok ER (cell (tgt k c) (.rcv k)) 0 0 ∗ room (F := F) (tgt k c) (blk (tgt k c) k))
/-- The transfers in `S` have been started. -/
def gone (c : Dev nD) (S : Finset (Fin 128)) : sProp 𝕄 :=
  bigSep S fun k => iprop(atPos ER (cell c (.snd k)) 0 ∅ 0 ∗ cred (tallyAt (cell c (.snd k)) () N))
/-- The transfers in `S` have left. -/
def away (c : Dev nD) (S : Finset (Fin 128)) : sProp 𝕄 :=
  bigSep S fun k => (atPos ER (cell c (.snd k)) 1 ∅ 0 : sProp 𝕄)
/-- The transfers in `S` are still expected. -/
def due (c : Dev nD) (S : Finset (Fin 128)) : sProp 𝕄 :=
  bigSep S fun k => iprop(atPos ER (cell c (.rcv k)) 0 ∅ 0 ∗ cred (tallyAt (cell c (.rcv k)) () N))
/-- The transfers in `S` have come. -/
def come (c : Dev nD) (S : Finset (Fin 128)) : sProp 𝕄 :=
  bigSep S fun k => iprop(atPos ER (cell c (.rcv k)) 1 ∅ 0 ∗ ∃ q, chunk m c (blk c k) q)

/-! ## Lending -/

/-- A share is two shares. -/
theorem lend {ℓ : Loc nD τ sig} {I : Finset (Idx ℓ)} {q : PosShare TreeShare} (f : Buf (Elt F) ℓ) :
    (ℓ ↦[I]{q} f : sProp 𝕄) ⊢ iprop((ℓ ↦[I]{q.left} f) ∗ (ℓ ↦[I]{q.right} f)) :=
  (pointsTo_share (PosShare.mem_left_op_right q)).1

/-- Part of `x` is lent. -/
theorem xs_lend (c : Dev nD) (I : Finset XIdx) :
    xs m c ⊢ iprop(xs m c ∗ ∃ q, (xM.view.loc (c : Thread nD τ)) ↦[I]{q} (xOf m c : Buf (Elt F) (xM.view.loc (c : Thread nD τ)))) := by
  unfold xs
  iintro ⟨%q, H⟩
  ihave H := (lend _) $$ H
  icases H with ⟨H1, H2⟩
  ihave H2 := (pointsTo_split_subset (Finset.subset_univ I)).1 $$ H2
  icases H2 with ⟨H2, -⟩
  isplitl [H1]; · iexists _; iexact H1
  iexists _; iexact H2

/-- A chunk that has come is lent. -/
theorem come_lend (c : Dev nD) {S : Finset (Fin 128)} {k : Fin 128} (hk : k ∈ S) :
    come m c S ⊢ iprop(come m c S ∗ ∃ q, chunk m c (blk c k) q) := by
  unfold come
  rw [family_erase hk]
  iintro ⟨⟨Hat, ⟨%q, H⟩⟩, Hr⟩
  unfold chunk
  ihave H := (lend _) $$ H
  icases H with ⟨H1, H2⟩
  isplitr [H2]
  · isplitr [Hr]
    · isplitl [Hat]; · iexact Hat
      iexists _; iexact H1
    · iexact Hr
  · iexists _; iexact H2

/-! ## The waits -/

/-- A wait that ends round `r` of a cell. -/
theorem wp_await (c : Dev nD) (u : Use) (r a : ℕ) (ha : a = (dutiesOf u r).card * amountOf u) {w : TpuEff nD τ sig (Elt F) Λ₀ .tc PUnit}
    (hw : ∀ T : PUnit → sProp 𝕄, wpE (defs₀ (F := F)) 𝒱₀ (c : Thread nD τ) none Set.univ w T
      = waitSpec (c : Thread nD τ) Set.univ (semOf u) a T)
    (S : Finset (Fin 128)) (hS : ∀ k ∈ S, level u < hop k) (p : P F) (Q : PUnit → sProp 𝕄) :
    iprop(ctx m K ∗ cred (tallyAt (cell c u) () a) ∗ ows c S ∗ atPos ER (cell c u) r ∅ 0)
      ⊢ iprop(((ows c S ∗ atPos ER (cell c u) (r + 1) ∅ 0 ∗ reached ER (cell c u) (r + 1)
            ∗ bigSep (dutiesOf u r) fun d => payOf m c r d u) -∗ WP c p Q)
          -∗ WP c (.op w fun _ => p) Q) := by
  unfold ows
  iintro ⟨#HC, Hcr, ⟨%W, HO⟩, Hat⟩ Hk
  iapply (Rounds.wp_wait_rest_token 𝒱₀ ER (sched m) (c : Thread nD τ) none (κ := K (c, semOf u)) (sm := semOf u)
      hw (Set.mem_univ _) () (O := owed S c) (W := W) (R := r) (m := 0) (T := ∅) (k' := a)
      (by rw [Nat.zero_add, expect_eq, ha])) $$ [Hcr HO Hat]
  · isplitr; · iapply (ctx_inv m K c u); iexact HC
    isplitl [Hcr]; · iexact Hcr
    isplitl [HO]; · iexact HO
    isplitr; · iapply (mayWait c u S hS); iapply (ctx_levels m K); iexact HC
    iexact Hat
  iintro ⟨HO, Hat, Hr, Hpay⟩
  iapply Hk
  isplitl [HO]; · iexists _; iexact HO
  isplitl [Hat]; · iexact Hat
  isplitl [Hr]; · iexact Hr
  iapply (Entails.of_eq (rest_eq m c u r)); iexact Hpay

/-- An expected transfer comes. -/
theorem wp_recv (c : Dev nD) (k : Fin 128) (S D D' : Finset (Fin 128)) (hD : D = insert k D') (hk : k ∉ D')
    (hS : ∀ j ∈ S, hop k < hop j) {src dst : Memref sig .tc .hbm S128x1024 .f32} (hN : dst.view.dmaCredit = N)
    (p : P F) (Q : PUnit → sProp 𝕄) :
    iprop(ctx m K ∗ ows c S ∗ due c D ∗ come m c Dᶜ)
      ⊢ iprop(((ows c S ∗ due c D' ∗ come m c D'ᶜ) -∗ WP c p Q) -∗ WP c (await (recvS k) src dst p) Q) := by
  obtain ⟨hc, hkc⟩ := compl_insert hD hk
  rw [hc]; subst hD
  unfold due come await
  rw [family_insert hk, family_insert hkc]
  iintro ⟨#HC, HO, ⟨⟨Hat, Hcr⟩, Hdue⟩, Hcome⟩ Hk
  iapply (wp_await m K c (.rcv k) 0 dst.view.dmaCredit (by rw [hN]; exact (Nat.one_mul N).symm)
    (wpE_waitDma2_eq 𝒱₀ (c : Thread nD τ) none Set.univ) S hS p Q) $$ [HO Hat Hcr]
  · isplitr; · iexact HC
    isplitl [Hcr]; · rw [hN]; iexact Hcr
    isplitl [HO]; · iexact HO
    iexact Hat
  iintro ⟨HO, Hat, -, Hpay⟩
  iapply Hk
  isplitl [HO]; · iexact HO
  isplitl [Hdue]; · iexact Hdue
  isplitr [Hcome]
  · isplitl [Hat]; · iexact Hat
    iexists fullShare
    ihave Hp := (show (bigSep (dutiesOf (.rcv k) 0) fun d => payOf m c 0 d (.rcv k)) ⊢ chunk m c (blk c k) fullShare from
      Entails.of_eq (by show bigSep {0} _ = _; rw [bigSep_singleton]; rfl)) $$ Hpay
    iexact Hp
  · iexact Hcome

/-- A started transfer leaves. -/
theorem wp_leave (c : Dev nD) (k : Fin 128) (G G' : Finset (Fin 128)) (hG : G = insert k G') (hk : k ∉ G')
    {src dst : Memref sig .tc .hbm S128x1024 .f32} (hN : dst.view.dmaCredit = N) (p : P F) (Q : PUnit → sProp 𝕄) :
    iprop(ctx m K ∗ ows c ∅ ∗ gone c G ∗ away c Gᶜ)
      ⊢ iprop(((ows c ∅ ∗ gone c G' ∗ away c G'ᶜ) -∗ WP c p Q) -∗ WP c (await (sendS k) src dst p) Q) := by
  obtain ⟨hc, hkc⟩ := compl_insert hG hk
  rw [hc]; subst hG
  unfold gone away await
  rw [family_insert hk, family_insert hkc]
  iintro ⟨#HC, HO, ⟨⟨Hat, Hcr⟩, Hgone⟩, Haway⟩ Hk
  iapply (wp_await m K c (.snd k) 0 dst.view.dmaCredit (by rw [hN]; exact (Nat.one_mul N).symm)
    (wpE_waitDma2_eq 𝒱₀ (c : Thread nD τ) none Set.univ) ∅ (fun _ h => absurd h (Finset.notMem_empty _)) p Q) $$ [HO Hat Hcr]
  · isplitr; · iexact HC
    isplitl [Hcr]; · rw [hN]; iexact Hcr
    isplitl [HO]; · iexact HO
    iexact Hat
  iintro ⟨HO, Hat, -, -⟩
  iapply Hk
  isplitl [HO]; · iexact HO
  isplitl [Hgone]; · iexact Hgone
  isplitl [Hat]; · iexact Hat
  iexact Haway

/-! ## The sends -/

/-- A transfer is started from any source that lands as the receiver's chunk. -/
theorem wp_send (c : Dev nD) (k : Fin 128) (S S' : Finset (Fin 128)) (hS : S = insert k S') (hk : k ∉ S')
    (src : Memref sig .tc .hbm S128x1024 .f32) (q : PosShare TreeShare) (fs : Buf (Elt F) (src.view.loc (c : Thread nD τ)))
    (hl : ∀ (fd : (main_v1 : Ref sig .tc).ty.Contents (Elt F)), ∀ i ∈ (oC (blk (tgt k c) k)).view.set,
      (oC (blk (tgt k c) k)).view.write (Elt F) fd (src.view.read (Elt F) fs) Finset.univ i = fin m (tgt k c) i)
    (p : P F) (Q : PUnit → sProp 𝕄) :
    iprop(ctx m K ∗ (src.view.loc (c : Thread nD τ) ↦[src.view.set]{q} fs) ∗ ows c S ∗ todo c S ∗ gone c Sᶜ)
      ⊢ iprop(((ows c S' ∗ todo c S' ∗ gone c S'ᶜ) -∗ WP c p Q)
          -∗ WP c (send src (oC (blk (tgt k c) k)) (tgt k c) k p) Q) := by
  obtain ⟨hc, hkc⟩ := compl_insert hS hk
  rw [hc]; subst hS
  unfold todo gone ows send
  rw [family_insert hk, family_insert hkc]
  iintro ⟨#HC, Hsrc, ⟨%W, HO⟩, ⟨⟨Hat, Hts, Htr, Hroom⟩, Htodo⟩, Hgone⟩ Hk
  unfold room
  icases Hroom with ⟨%fd, Hroom⟩
  iapply (Rounds.wp_send_pointsTo 𝒱₀ ER (sched m) (c : Thread nD τ) none (c' := (tgt k c : Thread nD τ))
      (κ₁ := K (c, semOf (.snd k))) (κ₂ := K (tgt k c, semOf (.rcv k)))
      (src := src) (dst := oC (blk (tgt k c) k)) (sS := semOf (.snd k)) (sem := semOf (.rcv k))
      (r₁ := 0) (r₂ := 0) (d₁ := 0) (d₂ := 0) (fs := fs) (fd := fd) (q := q)
      (by rw [duties_eq m c (.snd k)]; exact Finset.mem_singleton_self _)
      (by rw [duties_eq m (tgt k c) (.rcv k)]; exact Finset.mem_singleton_self _)
      () () N (credit_oC _) (amount_eq m c (.snd k) 0 0) (amount_eq m (tgt k c) (.rcv k) 0 0)
      (owed S' c) (owed_insert hk c) (W := W)
      (by rw [payload_eq m c (.snd k)]; iintro -; unfold payOf; iempintro)
      (by rw [payload_eq m (tgt k c) (.rcv k)]
          exact Entails.of_eq (pointsTo_congr (hl fd)))) $$ [Hsrc Hroom HO Hts Htr]
  · isplitr; · iapply (ctx_inv m K c (.snd k)); iexact HC
    isplitr; · iapply (ctx_inv m K (tgt k c) (.rcv k)); iexact HC
    isplitl [Hsrc]; · iexact Hsrc
    isplitl [Hroom]; · iexact Hroom
    isplitl [HO]; · iexact HO
    isplitl [Hts]; · iexact Hts
    isplitr; · iapply (ctx_reached m K c (.snd k)); iexact HC
    isplitl [Htr]; · iexact Htr
    iapply (ctx_reached m K (tgt k c) (.rcv k)); iexact HC
  iintro ⟨Hcr, HO⟩
  iapply Hk
  isplitl [HO]; · iexists _; iexact HO
  isplitl [Htodo]; · iexact Htodo
  isplitr [Hgone]
  · isplitl [Hat]; · iexact Hat
    iexact Hcr
  · iexact Hgone

/-- A chunk of the own block of `x` is sent. -/
theorem wp_send_first (c : Dev nD) (k : Fin 128) (hk43 : k.val < 43) (S S' : Finset (Fin 128)) (hS : S = insert k S') (hk : k ∉ S')
    (p : P F) (Q : PUnit → sProp 𝕄) :
    iprop(ctx m K ∗ xs m c ∗ ows c S ∗ todo c S ∗ gone c Sᶜ)
      ⊢ iprop(((xs m c ∗ ows c S' ∗ todo c S' ∗ gone c S'ᶜ) -∗ WP c p Q)
          -∗ WP c (send (xC (blk (tgt k c) k)) (oC (blk (tgt k c) k)) (tgt k c) k p) Q) := by
  iintro ⟨#HC, Hx, HO, Htodo, Hgone⟩ Hk
  ihave Hx := (xs_lend m c (xC (blk (tgt k c) k)).view.set) $$ Hx
  icases Hx with ⟨Hx, ⟨%q, Hs⟩⟩
  iapply (wp_send m K c k S S' hS hk (xC (blk (tgt k c) k)) q (xOf m c)
    (fun fd i hi => land_first m (tgt k c) c _ (org_first c k hk43) fd i hi) p Q) $$ [Hs HO Htodo Hgone]
  · isplitr; · iexact HC
    isplitl [Hs]; · iexact Hs
    isplitl [HO]; · iexact HO
    isplitl [Htodo] <;> iassumption
  iintro H
  iapply Hk
  isplitl [Hx]; · iexact Hx
  iexact H

/-- A chunk that has come is sent on. -/
theorem wp_send_relay (c : Dev nD) (k : Fin 128) (hk43 : ¬ k.val < 43) (S S' : Finset (Fin 128)) (hS : S = insert k S') (hk : k ∉ S')
    (R : Finset (Fin 128)) (hR : source k ∈ R) (p : P F) (Q : PUnit → sProp 𝕄) :
    iprop(ctx m K ∗ come m c R ∗ ows c S ∗ todo c S ∗ gone c Sᶜ)
      ⊢ iprop(((come m c R ∗ ows c S' ∗ todo c S' ∗ gone c S'ᶜ) -∗ WP c p Q)
          -∗ WP c (send (oC (blk (tgt k c) k)) (oC (blk (tgt k c) k)) (tgt k c) k p) Q) := by
  iintro ⟨#HC, Hr, HO, Htodo, Hgone⟩ Hk
  ihave Hr := (come_lend m c hR) $$ Hr
  icases Hr with ⟨Hr, ⟨%q, Hs⟩⟩
  rw [blk_source c k hk43]
  unfold chunk
  iapply (wp_send m K c k S S' hS hk (oC (blk (tgt k c) k)) q (fin m c)
    (fun fd i hi => land_relay m (tgt k c) c _ (org_relay c k hk43) fd i hi) p Q) $$ [Hs HO Htodo Hgone]
  · isplitr; · iexact HC
    isplitl [Hs]; · iexact Hs
    isplitl [HO]; · iexact HO
    isplitl [Htodo] <;> iassumption
  iintro H
  iapply Hk
  isplitl [Hr]; · iexact Hr
  iexact H

end Cert.KernelIdeal.Run
end
-- ==== Proof.Local.lean ====
/-
A device's copy of its own block of `x` into its own half of the result, sixteen blocks of 1024 rows through two
staging blocks, and the exchange of signals at the start.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## What a device holds of its own copy -/

/-- Staging block `s` is free, and `r` blocks have been through it. -/
def spare (c : Dev nD) (s : Fin 2) (r : ℕ) : sProp 𝕄 :=
  iprop(atPos ER (cell c (.ins s)) r ∅ 0 ∗ reached ER (cell c (.ins s)) r ∗ atPos ER (cell c (.outs s)) r ∅ 0
    ∗ reached ER (cell c (.outs s)) r ∗ slotRoom (F := F) c s)

/-- Block `k` is on its way from its staging block into the result. -/
def flying (c : Dev nD) (k : Fin 16) : sProp 𝕄 :=
  iprop(atPos ER (cell c (.ins (par k))) (k.val / 2 + 1) ∅ 0 ∗ reached ER (cell c (.ins (par k))) (k.val / 2 + 1)
    ∗ atPos ER (cell c (.outs (par k))) (k.val / 2) ∅ 0 ∗ cred (tallyAt (cell c (.outs (par k))) () NO))

/-- Block `k` is still to be copied. -/
def plan (c : Dev nD) (k : Fin 16) : sProp 𝕄 :=
  iprop(dutyTok ER (cell c (.ins (par k))) (k.val / 2) 0 ∗ dutyTok ER (cell c (.outs (par k))) (k.val / 2) 0
    ∗ blockRoom (F := F) c k)

/-! ## The copies -/

theorem half_lt (k : Fin 16) : k.val / 2 < 8 := by omega

/-- A block is brought into its staging block and its copy into the result is started. -/
theorem wp_pump (c : Dev nD) (k : Fin 16) (S : Finset (Fin 128)) (hS : ∀ j ∈ S, 0 < hop j) (p : P F) (Q : PUnit → sProp 𝕄) :
    iprop(ctx m K ∗ xs m c ∗ ows c S ∗ spare c (par k) (k.val / 2) ∗ plan c k)
      ⊢ iprop(((xs m c ∗ ows c S ∗ flying c k) -∗ WP c p Q) -∗ WP c (pump c k p) Q) := by
  have hd : ∀ (u : Use), u = .ins (par k) ∨ u = .outs (par k) → dutiesOf u (k.val / 2) = {0} := by
    rintro u (rfl | rfl) <;> exact if_pos (half_lt k)
  unfold spare plan flying pump load store
  rw [ob_eq]
  iintro ⟨#HC, Hx, HO, ⟨Hati, #Hri, Hato, #Hro, Hslot⟩, Hti, Hto, Hroom⟩ Hk
  unfold slotRoom blockRoom
  icases Hslot with ⟨%fs, Hslot⟩
  icases Hroom with ⟨%fd, Hroom⟩
  ihave Hx := (xs_lend m c (xb k).view.set) $$ Hx
  icases Hx with ⟨Hx, ⟨%q, Hs⟩⟩
  iapply (Rounds.wp_copy_pointsTo 𝒱₀ ER (sched m) (c : Thread nD τ) none (κ := K (c, semOf (.ins (par k))))
      (src := xb k) (dst := slot (par k)) (sem := semOf (.ins (par k))) (r := k.val / 2) (d := 0) (fs := xOf m c) (fd := fs) (q := q)
      (by rw [duties_eq m c (.ins (par k)), hd _ (Or.inl rfl)]; exact Finset.mem_singleton_self _)
      () NI (credit_slot _) (amount_eq m c (.ins (par k)) _ 0)
      (by rw [payload_eq m c (.ins (par k))]
          show _ ⊢ slotX m c (par k) (turn (par k) (k.val / 2))
          rw [turn_par]
          unfold slotX
          iintro ⟨H, -⟩
          iexists ((slot (par k)).view.write (Elt F) fs ((xb k).view.read (Elt F) (xOf m c)) Finset.univ)
          isplitr
          · ipureintro; exact View.read_write_univ _ _
          · iexact H)) $$ [Hs Hslot Hti]
  · isplitr; · iapply (ctx_inv m K c (.ins (par k))); iexact HC
    isplitl [Hs]; · iexact Hs
    isplitl [Hslot]; · iexact Hslot
    isplitl [Hti]; · iexact Hti
    iexact Hri
  iintro Hcr
  iapply (wp_await m K c (.ins (par k)) (k.val / 2) (slot (par k)).view.dmaCredit (by rw [hd _ (Or.inl rfl), credit_slot]; exact (Nat.one_mul NI).symm)
    (wpE_waitDma2_eq 𝒱₀ (c : Thread nD τ) none Set.univ) S hS _ Q) $$ [HO Hati Hcr]
  · isplitr; · iexact HC
    isplitl [Hcr]; · rw [credit_slot]; iexact Hcr
    isplitl [HO]; · iexact HO
    iexact Hati
  iintro ⟨HO, Hati, #Hri', Hpay⟩
  ihave Hp := (show (bigSep (dutiesOf (.ins (par k)) (k.val / 2)) fun d => payOf m c (k.val / 2) d (.ins (par k))) ⊢ slotX m c (par k) k from
      Entails.of_eq (by rw [hd _ (Or.inl rfl), bigSep_singleton]; show slotX m c (par k) (turn (par k) (k.val / 2)) = _; rw [turn_par])) $$ Hpay
  unfold slotX
  icases Hp with ⟨%f, %hf, Hslot⟩
  iapply (Rounds.wp_copy_pointsTo 𝒱₀ ER (sched m) (c : Thread nD τ) none (κ := K (c, semOf (.outs (par k))))
      (src := slot (par k)) (dst := oB (own c k)) (sem := semOf (.outs (par k))) (r := k.val / 2) (d := 0) (fs := f) (fd := fd) (q := fullShare)
      (by rw [duties_eq m c (.outs (par k)), hd _ (Or.inr rfl)]; exact Finset.mem_singleton_self _)
      () NO (credit_oB _) (amount_eq m c (.outs (par k)) _ 0)
      (by rw [payload_eq m c (.outs (par k))]
          show _ ⊢ iprop(block m c (turn (par k) (k.val / 2)) ∗ slotRoom c (par k))
          rw [turn_par, hf]
          unfold block slotRoom
          iintro ⟨H, Hs⟩
          isplitl [H]
          · iapply (Entails.of_eq (pointsTo_congr (fun i hi => land_own m c k fd i hi))); iexact H
          · iexists _; iexact Hs)) $$ [Hroom Hslot Hto]
  · isplitr; · iapply (ctx_inv m K c (.outs (par k))); iexact HC
    isplitl [Hslot]; · iexact Hslot
    isplitl [Hroom]; · iexact Hroom
    isplitl [Hto]; · iexact Hto
    iexact Hro
  iintro Hcr
  iapply Hk
  isplitl [Hx]; · iexact Hx
  isplitl [HO]; · iexact HO
  isplitl [Hati]; · iexact Hati
  isplitr; · iexact Hri'
  isplitl [Hato]; · iexact Hato
  iexact Hcr

/-- A block has arrived in the result, and its staging block is free. -/
theorem wp_stored (c : Dev nD) (k : Fin 16) (S : Finset (Fin 128)) (hS : ∀ j ∈ S, 0 < hop j) (p : P F) (Q : PUnit → sProp 𝕄) :
    iprop(ctx m K ∗ ows c S ∗ flying c k)
      ⊢ iprop(((ows c S ∗ spare c (par k) (k.val / 2 + 1) ∗ block m c k) -∗ WP c p Q) -∗ WP c (stored (ob c k) (par k) p) Q) := by
  have hd : dutiesOf (.outs (par k)) (k.val / 2) = {0} := if_pos (half_lt k)
  unfold spare flying stored
  rw [ob_eq]
  iintro ⟨#HC, HO, Hati, Hri, Hato, Hcr⟩ Hk
  iapply (wp_await m K c (.outs (par k)) (k.val / 2) (oB (own c k)).view.dmaCredit (by rw [hd, credit_oB]; exact (Nat.one_mul NO).symm)
    (wpE_waitDma2_eq 𝒱₀ (c : Thread nD τ) none Set.univ) S hS p Q) $$ [HO Hato Hcr]
  · isplitr; · iexact HC
    isplitl [Hcr]; · rw [credit_oB]; iexact Hcr
    isplitl [HO]; · iexact HO
    iexact Hato
  iintro ⟨HO, Hato, Hro, Hpay⟩
  ihave Hp := (show (bigSep (dutiesOf (.outs (par k)) (k.val / 2)) fun d => payOf m c (k.val / 2) d (.outs (par k)))
      ⊢ iprop(block m c k ∗ slotRoom c (par k)) from
      Entails.of_eq (by rw [hd, bigSep_singleton]; show iprop(block m c (turn (par k) (k.val / 2)) ∗ slotRoom c (par k)) = _; rw [turn_par])) $$ Hpay
  icases Hp with ⟨Hb, Hs⟩
  iapply Hk
  isplitl [HO]; · iexact HO
  isplitr [Hb]
  · isplitl [Hati]; · iexact Hati
    isplitl [Hri]; · iexact Hri
    isplitl [Hato]; · iexact Hato
    isplitl [Hro]; · iexact Hro
    iexact Hs
  · iexact Hb

/-! ## The start -/

/-- A signal to the neighbour in direction `a`, which passes it the room it sends into. -/
theorem wp_signal (c : Dev nD) (a : Fin 3) (O₁ O : CellTallies nD τ sig Unit)
    (hO : O₁ = O + tallyAt (cell (nbr a c) .bar) () 1) (W : Waits sig Unit) (p : P F) (Q : PUnit → sProp 𝕄) :
    iprop(ctx m K ∗ owes (c : Thread nD τ) O₁ W ∗ dutyTok ER (cell (nbr a c) .bar) 0 a ∗ barPay (nbr a c) a)
      ⊢ iprop((owes (c : Thread nD τ) O W -∗ WP c p Q) -∗ WP c (signal (nbr a c) p) Q) := by
  have hpay : barPay (F := F) (nbr a c) a ⊢ (sched m).payload (cell (nbr a c) .bar) 0 a :=
    Entails.of_eq (payload_eq m (nbr a c) .bar 0 a).symm
  unfold signal
  rw [show (1#32 : BitVec 32).toInt = ((1 : ℕ) : ℤ) from rfl]
  iintro ⟨#HC, HO, Ht, Hpay⟩ Hk
  iapply (Rounds.wp_signal 𝒱₀ ER (sched m) (c : Thread nD τ) none (κ := K (nbr a c, semOf .bar)) (dst := (nbr a c : Thread nD τ)) (sem := barS)
      (r := 0) (d := a) (k' := 1) (W := W)
      (by rw [duties_eq m (nbr a c) .bar]; exact Finset.mem_univ _) (amount_eq m (nbr a c) .bar 0 a) () O hO) $$ [HO Ht Hpay]
  · isplitr; · iapply (ctx_inv m K (nbr a c) .bar); iexact HC
    isplitl [HO]; · iexact HO
    isplitl [Ht]; · iexact Ht
    isplitl [Hpay]; · iapply hpay; iexact Hpay
    iapply (ctx_reached m K (nbr a c) .bar); iexact HC
  iexact Hk

/-- The wait for all three neighbours. -/
theorem wp_ready (c : Dev nD) (S : Finset (Fin 128)) (p : P F) (Q : PUnit → sProp 𝕄) :
    iprop(ctx m K ∗ ows c S ∗ cred (tallyAt (cell c .bar) () 3) ∗ atPos ER (cell c .bar) 0 ∅ 0)
      ⊢ iprop(((ows c S ∗ atPos ER (cell c .bar) 1 ∅ 0 ∗ bigSep Finset.univ fun a => barPay (F := F) c a) -∗ WP c p Q)
        -∗ WP c (ready p) Q) := by
  unfold ready
  iintro ⟨#HC, HO, Hcr, Hat⟩ Hk
  iapply (wp_await m K c .bar 0 3 rfl (wpE_semWait_eq 𝒱₀ (c : Thread nD τ) none Set.univ) S
    (fun j _ => by show 1 < hop j; unfold hop; split <;> [decide; (split <;> decide)]) p Q) $$ [HO Hat Hcr]
  · isplitr; · iexact HC
    isplitl [Hcr]; · iexact Hcr
    isplitl [HO]; · iexact HO
    iexact Hat
  iintro ⟨HO, Hat, -, Hpay⟩
  iapply Hk
  isplitl [HO]; · iexact HO
  isplitl [Hat]; · iexact Hat
  iexact Hpay

end Cert.KernelIdeal.Run
end
-- ==== Proof.Loops.lean ====
/-
The loops of the body: what each is entered with and what it leaves.

`from_ a` is the set of the transfers `a`, `a + 1`, …, and the other sets are named after the loops they belong to.
-/
module

public import proofs.«01_k».proof.Proof.Local

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## The state between two steps -/

/-- The sending side, `S` still to be sent. -/
def sending (c : Dev nD) (S : Finset (Fin 128)) : sProp 𝕄 := iprop(ows c S ∗ todo c S ∗ gone c Sᶜ)
/-- The receiving side, `D` still expected. -/
def receiving (c : Dev nD) (D : Finset (Fin 128)) : sProp 𝕄 := iprop(due c D ∗ come m c Dᶜ)
/-- After the last send, `G` has not been seen to leave. -/
def leaving (c : Dev nD) (G : Finset (Fin 128)) : sProp 𝕄 := iprop(ows c ∅ ∗ gone c G ∗ away c Gᶜ)

/-- The transfers from number `a` on. -/
abbrev from_ (a : ℕ) : Finset (Fin 128) := ks fun j => a ≤ j
/-- Still to be sent when `n` chunks have been relayed. -/
abbrev relayS (n : ℕ) : Finset (Fin 128) := ks fun j => (43 + n ≤ j ∧ j < 75) ∨ 75 + n ≤ j
/-- Still to be sent between the two sends of a relay. -/
abbrev relayS' (n : ℕ) : Finset (Fin 128) := ks fun j => (43 + n + 1 ≤ j ∧ j < 75) ∨ 75 + n ≤ j
/-- Still expected in the loop that sends chunks on along `x`. -/
abbrev onX (n : ℕ) : Finset (Fin 128) := ks fun j => 32 ≤ j ∧ ¬ (86 ≤ j ∧ j < 86 + n)
/-- Still expected in the loop that sends chunks on along `z`. -/
abbrev onZ (n : ℕ) : Finset (Fin 128) := ks fun j => 32 ≤ j ∧ ¬ (65 ≤ j ∧ j < 65 + n) ∧ ¬ (86 ≤ j ∧ j < 97)
/-- Still expected in the loop over the diagonal quarter. -/
abbrev diag (n : ℕ) : Finset (Fin 128) := ks fun j => 32 + n ≤ j ∧ ¬ (65 ≤ j ∧ j < 75) ∧ ¬ (86 ≤ j ∧ j < 97)
/-- Still expected in the loop over the chunks from both neighbours. -/
abbrev both (n : ℕ) : Finset (Fin 128) := ks fun j => (43 + n ≤ j ∧ j < 65) ∨ (75 + n ≤ j ∧ j < 86) ∨ 97 ≤ j
/-- Still expected inside a step of it. -/
abbrev both' (n : ℕ) : Finset (Fin 128) := ks fun j => (43 + n + 1 ≤ j ∧ j < 65) ∨ (75 + n ≤ j ∧ j < 86) ∨ 97 ≤ j
/-- Still expected in the loop over the remaining chunks from `x`. -/
abbrev restX (n : ℕ) : Finset (Fin 128) := ks fun j => (54 + n ≤ j ∧ j < 65) ∨ 97 ≤ j

theorem hop_pos (j : Fin 128) : 0 < hop j := by unfold hop; split_ifs <;> omega
theorem hop_lt {j k : Fin 128} (h : (k.val < 43 ∧ 43 ≤ j.val) ∨ (k.val < 107 ∧ 107 ≤ j.val)) : hop k < hop j := by
  unfold hop; split_ifs <;> omega

theorem toY_n1 (c : Dev nD) (i : Fin 32) : toY c = tgt (n1 i) c := by
  rw [toY_eq]; exact congrArg (nbr · c) (by revert i; decide)
theorem toY_n1d (c : Dev nD) (i : Fin 11) : toY c = tgt (n1d i) c := by
  rw [toY_eq]; exact congrArg (nbr · c) (by revert i; decide)
theorem toX_n2 (c : Dev nD) (i : Fin 32) : toX c = tgt (n2 i) c := by
  rw [toX_eq]; exact congrArg (nbr · c) (by revert i; decide)
theorem toZ_n3 (c : Dev nD) (i : Fin 32) : toZ c = tgt (n3 i) c := by
  rw [toZ_eq]; exact congrArg (nbr · c) (by revert i; decide)
theorem toX_n4a (c : Dev nD) (i : Fin 11) : toX c = tgt (n4a i) c := by
  rw [toX_eq]; exact congrArg (nbr · c) (by revert i; decide)
theorem toZ_n4b (c : Dev nD) (i : Fin 10) : toZ c = tgt (n4b i) c := by
  rw [toZ_eq]; exact congrArg (nbr · c) (by revert i; decide)

theorem credit_o2 (c : Dev nD) (i : Fin 32) : (o2 c i).view.dmaCredit = N := by rw [o2_eq]; exact credit_oC _
theorem credit_o1 (c : Dev nD) (i : Fin 32) : (o1 c i).view.dmaCredit = N := by rw [o1_eq]; exact credit_oC _
theorem credit_x1 (c : Dev nD) (i : Fin 32) : (x1 c i).view.dmaCredit = N := by rw [x1_eq]; exact credit_xC _
theorem credit_o1d (c : Dev nD) (i : Fin 11) : (o1d c i).view.dmaCredit = N := by rw [o1d_eq]; exact credit_oC _
theorem credit_x1d (c : Dev nD) (i : Fin 11) : (x1d c i).view.dmaCredit = N := by rw [x1d_eq]; exact credit_xC _
theorem credit_o4a (c : Dev nD) (i : Fin 11) : (o4a c i).view.dmaCredit = N := by rw [o4a_eq]; exact credit_oC _
theorem credit_o4b (c : Dev nD) (i : Fin 10) : (o4b c i).view.dmaCredit = N := by rw [o4b_eq]; exact credit_oC _

/-! ## Single steps on this state -/

/-- One receive. -/
theorem recv_step (c : Dev nD) (k : Fin 128) (S D D' : Finset (Fin 128)) (hD : D = insert k D') (hk : k ∉ D')
    (hS : ∀ j ∈ S, hop k < hop j) {src dst : Memref sig .tc .hbm S128x1024 .f32} (hN : dst.view.dmaCredit = N)
    (p : P F) (Q : PUnit → sProp 𝕄) :
    iprop(ctx m K ∗ sending c S ∗ receiving m c D)
      ⊢ iprop(((sending c S ∗ receiving m c D') -∗ WP c p Q) -∗ WP c (await (recvS k) src dst p) Q) := by
  unfold sending receiving
  iintro ⟨#HC, ⟨HO, Hs⟩, Hr⟩ Hk
  iapply (wp_recv m K c k S D D' hD hk hS hN p Q) $$ [HO Hr]
  · isplitr; · iexact HC
    isplitl [HO] <;> iassumption
  iintro ⟨HO, Hr⟩
  iapply Hk
  isplitr [Hr]
  · isplitl [HO] <;> iassumption
  · iexact Hr

/-- One send of a chunk that has come. -/
theorem relay_step (c : Dev nD) (k : Fin 128) (hk43 : ¬ k.val < 43) (S S' D : Finset (Fin 128)) (hS : S = insert k S') (hk : k ∉ S')
    (hD : source k ∉ D) (p : P F) (Q : PUnit → sProp 𝕄) :
    iprop(ctx m K ∗ sending c S ∗ receiving m c D)
      ⊢ iprop(((sending c S' ∗ receiving m c D) -∗ WP c p Q)
          -∗ WP c (send (oC (blk (tgt k c) k)) (oC (blk (tgt k c) k)) (tgt k c) k p) Q) := by
  unfold sending receiving
  iintro ⟨#HC, Hs, ⟨Hd, Hr⟩⟩ Hk
  iapply (wp_send_relay m K c k hk43 S S' hS hk Dᶜ (Finset.mem_compl.mpr hD) p Q) $$ [Hs Hr]
  · isplitr; · iexact HC
    isplitl [Hr]; · iexact Hr
    iexact Hs
  iintro ⟨Hr, Hs⟩
  iapply Hk
  isplitl [Hs]; · iexact Hs
  isplitl [Hd] <;> iassumption

/-- One relay. -/
theorem relay_whole (c : Dev nD) (i : Fin 32) (p : P F) (Q : PUnit → sProp 𝕄) :
    iprop(ctx m K ∗ sending c (relayS i.val) ∗ receiving m c (from_ i.val))
      ⊢ iprop(((sending c (relayS (i.val + 1)) ∗ receiving m c (from_ (i.val + 1))) -∗ WP c p Q) -∗ WP c (relay c i p) Q) := by
  have hi := i.isLt
  have e2 : ∀ p : P F, send (o2 c i) (o2 c i) (toX c) (n2 i) p
      = send (oC (blk (tgt (n2 i) c) (n2 i))) (oC (blk (tgt (n2 i) c) (n2 i))) (tgt (n2 i) c) (n2 i) p := fun p => by rw [o2_eq, toX_n2 c i]
  have e3 : ∀ p : P F, send (o2 c i) (o2 c i) (toZ c) (n3 i) p
      = send (oC (blk (tgt (n3 i) c) (n3 i))) (oC (blk (tgt (n3 i) c) (n3 i))) (tgt (n3 i) c) (n3 i) p := fun p => by rw [o3_eq, toZ_n3 c i]
  have s2 : source (n2 i) = n1 i := by clear e2 e3 hi; revert i; decide
  have s3 : source (n3 i) = n1 i := by clear s2 e2 e3 hi; revert i; decide
  have hn : n1 i ∉ from_ (i.val + 1) := fun h => absurd (mem_ks.mp h) (by show ¬ (i.val + 1 ≤ i.val); omega)
  unfold relay
  rw [e2, e3]
  iintro ⟨#HC, H⟩ Hk
  iapply (recv_step m K c (n1 i) (relayS i.val) (from_ i.val) (from_ (i.val + 1)) (ks_insert _ fun j _ => by show _ ↔ j = i.val ∨ _; omega) hn
    (fun j hj => hop_lt (Or.inl ⟨by show i.val < 43; omega, by have := mem_ks.mp hj; omega⟩)) (credit_o1 c i) _ Q) $$ [H]
  · isplitr; · iexact HC
    iexact H
  iintro H
  iapply (relay_step m K c (n2 i) (by show ¬ (43 + i.val < 43); omega) (relayS i.val) (relayS' i.val) (from_ (i.val + 1))
    (ks_insert _ fun j _ => by show _ ↔ j = 43 + i.val ∨ _; omega)
    (fun h => by have := mem_ks.mp h; dsimp only at this; omega) (by rw [s2]; exact hn) _ Q) $$ [H]
  · isplitr; · iexact HC
    iexact H
  iintro H
  iapply (relay_step m K c (n3 i) (by show ¬ (75 + i.val < 43); omega) (relayS' i.val) (relayS (i.val + 1)) (from_ (i.val + 1))
    (ks_insert _ fun j _ => by show _ ↔ j = 75 + i.val ∨ _; omega)
    (fun h => by have := mem_ks.mp h; dsimp only at this; omega) (by rw [s3]; exact hn) _ Q) $$ [H]
  · isplitr; · iexact HC
    iexact H
  iexact Hk

/-! ## The first sends -/

/-- The 32 chunks of the own quarter are sent. -/
theorem loop_first (c : Dev nD) (p : P F) (Q : PUnit → sProp 𝕄) :
    iprop(ctx m K ∗ xs m c ∗ sending c (from_ 0))
      ⊢ iprop(((xs m c ∗ sending c (from_ 32)) -∗ WP c p Q)
        -∗ WP c (loop 32 (fun i => send (x1 c i) (o1 c i) (toY c) (n1 i)) p) Q) :=
  wp_loop c (ctx m K) Q p 32 _ (fun n => iprop(xs m c ∗ sending c (from_ n))) fun i p => by
    have hi := i.isLt
    rw [x1_eq, o1_eq, toY_n1 c i]
    exact wp_send_first m K c (n1 i) (by show i.val < 43; omega) (from_ i.val) (from_ (i.val + 1))
      (ks_insert _ fun j _ => by show _ ↔ j = i.val ∨ _; omega)
      (fun h => by have := mem_ks.mp h; dsimp only at this; omega) p Q

/-- The 11 chunks of the diagonal quarter are sent. -/
theorem loop_diag (c : Dev nD) (p : P F) (Q : PUnit → sProp 𝕄) :
    iprop(ctx m K ∗ xs m c ∗ sending c (from_ 32))
      ⊢ iprop(((xs m c ∗ sending c (from_ 43)) -∗ WP c p Q)
        -∗ WP c (loop 11 (fun i => send (x1d c i) (o1d c i) (toY c) (n1d i)) p) Q) :=
  wp_loop c (ctx m K) Q p 11 _ (fun n => iprop(xs m c ∗ sending c (from_ (32 + n)))) fun i p => by
    have hi := i.isLt
    rw [x1d_eq, o1d_eq, toY_n1d c i]
    exact wp_send_first m K c (n1d i) (by show 32 + i.val < 43; omega) (from_ (32 + i.val)) (from_ (32 + (i.val + 1)))
      (ks_insert _ fun j _ => by show _ ↔ j = 32 + i.val ∨ _; omega)
      (fun h => by have := mem_ks.mp h; dsimp only at this; omega) p Q

/-! ## The relays, and the own copy beside them -/

/-- What staging block `j % 2` is doing when it waits for block `j`: block `j - 2` is on its way through it. -/
def occ (c : Dev nD) (j : ℕ) : sProp 𝕄 :=
  if h : j < 2 then spare (F := F) c ⟨j, h⟩ 0 else flying c ⟨(j - 2) % 16, Nat.mod_lt _ (by decide)⟩

theorem occ_small (c : Dev nD) (k : Fin 16) (h : k.val < 2) : occ (F := F) c k.val = spare c (par k) (k.val / 2) := by
  unfold occ; rw [dif_pos h, Nat.div_eq_of_lt h]
  exact congrArg (spare c · 0) (Fin.ext (Nat.mod_eq_of_lt h).symm)
theorem occ_large (c : Dev nD) (k : Fin 16) : occ (F := F) c (k.val + 2) = flying c k := by
  unfold occ; rw [dif_neg (by omega)]
  exact congrArg (flying c) (Fin.ext (by show (k.val + 2 - 2) % 16 = k.val; omega))

/-- The own copy after `n` blocks have been started. -/
def copying (c : Dev nD) (n : ℕ) : sProp 𝕄 :=
  iprop(occ c n ∗ occ c (n + 1) ∗ (bigSep (ks fun j => n ≤ j) fun k => plan c k) ∗ bigSep (ks fun j => j + 2 < n + 0) fun k => block m c k)

/-- Block `k` is started when its staging block is free. -/
theorem pump_step (c : Dev nD) (k : Fin 16) (S : Finset (Fin 128)) (p : P F) (Q : PUnit → sProp 𝕄) :
    iprop(ctx m K ∗ xs m c ∗ ows c S ∗ spare c (par k) (k.val / 2) ∗ bigSep (ks fun j => k.val ≤ j) fun k => plan c k)
      ⊢ iprop(((xs m c ∗ ows c S ∗ occ c (k.val + 2) ∗ bigSep (ks fun j => k.val + 1 ≤ j) fun k => plan c k) -∗ WP c p Q)
        -∗ WP c (pump c k p) Q) := by
  rw [occ_large, ks_insert (p := fun j => k.val ≤ j) (p' := fun j => k.val + 1 ≤ j) k (fun j _ => by omega),
    family_insert (fun h => by have := mem_ks.mp h; omega)]
  iintro ⟨#HC, Hx, HO, Hs, Hp, Hps⟩ Hk
  iapply (wp_pump m K c k S (fun j _ => hop_pos j) p Q) $$ [Hx HO Hs Hp]
  · isplitr; · iexact HC
    isplitl [Hx]; · iexact Hx
    isplitl [HO]; · iexact HO
    isplitl [Hs] <;> iassumption
  iintro ⟨Hx, HO, Hf⟩
  iapply Hk
  isplitl [Hx]; · iexact Hx
  isplitl [HO]; · iexact HO
  isplitl [Hf] <;> iassumption

/-- The state in the loops that also copy. -/
def mid (c : Dev nD) (n : ℕ) : sProp 𝕄 :=
  iprop(xs m c ∗ copying m c n ∗ sending c (relayS n) ∗ receiving m c (from_ n))

/-- The first two chunks are relayed, and the first two blocks are started. -/
theorem loop_relay2 (c : Dev nD) (p : P F) (Q : PUnit → sProp 𝕄) :
    iprop(ctx m K ∗ mid m c 0)
      ⊢ iprop((mid m c 2 -∗ WP c p Q)
        -∗ WP c (loop 2 (fun i p => relay c ⟨i.val, by omega⟩ (pump c ⟨i.val, by omega⟩ p)) p) Q) :=
  wp_loop c (ctx m K) Q p 2 _ (fun n => mid m c n) fun i p => by
    have hi := i.isLt
    have hb1 : i.val < 16 := by omega
    have hc0 : i.val < 32 := by omega
    unfold mid
    iintro ⟨#HC, Hx, Hc, H⟩ Hk
    iapply (relay_whole m K c ⟨i.val, hc0⟩ _ Q) $$ [H]
    · isplitr; · iexact HC
      iexact H
    iintro ⟨Hs, Hr⟩
    unfold copying sending
    icases Hc with ⟨Ho, Ho', Hp, Hb⟩
    icases Hs with ⟨HO, Hs⟩
    ihave Ho := (Entails.of_eq (occ_small c ⟨i.val, hb1⟩ hi)) $$ Ho
    iapply (pump_step m K c ⟨i.val, hb1⟩ _ p Q) $$ [Hx HO Ho Hp]
    · isplitr; · iexact HC
      isplitl [Hx]; · iexact Hx
      isplitl [HO]; · iexact HO
      isplitl [Ho] <;> iassumption
    iintro ⟨Hx, HO, Ho, Hp⟩
    iapply Hk
    isplitl [Hx]; · iexact Hx
    isplitr [HO Hs Hr]
    · isplitl [Ho']; · iexact Ho'
      isplitl [Ho]; · iexact Ho
      isplitl [Hp]; · iexact Hp
      rw [show (ks (n := 16) fun j => j + 2 < i.val + 1 + 0) = ks (fun j => j + 2 < i.val + 0) from ks_congr fun j _ => by omega]
      iexact Hb
    · isplitr [Hr]
      · isplitl [HO] <;> iassumption
      · iexact Hr

/-- The next fourteen chunks are relayed; with each, a block is seen to have arrived and the next but one is started. -/
theorem loop_relay14 (c : Dev nD) (p : P F) (Q : PUnit → sProp 𝕄) :
    iprop(ctx m K ∗ mid m c 2)
      ⊢ iprop((mid m c 16 -∗ WP c p Q)
        -∗ WP c (loop 14 (fun i p => relay c ⟨2 + i.val, by omega⟩ (stored (ob c ⟨i.val, by omega⟩) (par ⟨i.val, by omega⟩)
          (pump c ⟨2 + i.val, by omega⟩ p))) p) Q) :=
  wp_loop c (ctx m K) Q p 14 _ (fun n => mid m c (2 + n)) fun i p => by
    have hi := i.isLt
    have hb2 : 2 + i.val < 16 := by omega
    have hb1 : i.val < 16 := by omega
    have hc0 : 2 + i.val < 32 := by omega
    have hpar : par ⟨2 + i.val, by omega⟩ = par ⟨i.val, by omega⟩ := Fin.ext (by show (2 + i.val) % 2 = i.val % 2; omega)
    have hdiv : (2 + i.val) / 2 = i.val / 2 + 1 := by omega
    unfold mid
    iintro ⟨#HC, Hx, Hc, H⟩ Hk
    iapply (relay_whole m K c ⟨2 + i.val, hc0⟩ _ Q) $$ [H]
    · isplitr; · iexact HC
      iexact H
    iintro ⟨Hs, Hr⟩
    unfold copying sending
    icases Hc with ⟨Ho, Ho', Hp, Hb⟩
    icases Hs with ⟨HO, Hs⟩
    ihave Ho := (Entails.of_eq ((congrArg (occ c) (Nat.add_comm 2 i.val)).trans (occ_large c ⟨i.val, hb1⟩))) $$ Ho
    iapply (wp_stored m K c ⟨i.val, hb1⟩ _ (fun j _ => hop_pos j) _ Q) $$ [HO Ho]
    · isplitr; · iexact HC
      isplitl [HO] <;> iassumption
    iintro ⟨HO, Ho, Hbk⟩
    iapply (pump_step m K c ⟨2 + i.val, hb2⟩ _ p Q) $$ [Hx HO Ho Hp]
    · isplitr; · iexact HC
      isplitl [Hx]; · iexact Hx
      isplitl [HO]; · iexact HO
      isplitl [Ho]
      · iapply (Entails.of_eq (congr (congrArg (spare c) hpar.symm) hdiv.symm)); iexact Ho
      · iexact Hp
    iintro ⟨Hx, HO, Ho, Hp⟩
    iapply Hk
    isplitl [Hx]; · iexact Hx
    isplitr [HO Hs Hr]
    · isplitl [Ho']; · iexact Ho'
      isplitl [Ho]; · iexact Ho
      isplitl [Hp]; · iexact Hp
      rw [ks_insert (n := 16) (p := fun j => j + 2 < 2 + (i.val + 1) + 0) (p' := fun j => j + 2 < 2 + i.val + 0) ⟨i.val, by omega⟩ (fun j _ => by dsimp only; omega),
        family_insert (fun h => by have := mem_ks.mp h; dsimp only at this; omega)]
      isplitl [Hbk] <;> iassumption
    · isplitr [Hr]
      · isplitl [HO] <;> iassumption
      · iexact Hr

/-- The other sixteen chunks are relayed. -/
theorem loop_relay16 (c : Dev nD) (p : P F) (Q : PUnit → sProp 𝕄) :
    iprop(ctx m K ∗ sending c (relayS 16) ∗ receiving m c (from_ 16))
      ⊢ iprop(((sending c (relayS 32) ∗ receiving m c (from_ 32)) -∗ WP c p Q)
        -∗ WP c (loop 16 (fun i => relay c ⟨16 + i.val, by omega⟩) p) Q) :=
  wp_loop c (ctx m K) Q p 16 _ (fun n => iprop(sending c (relayS (16 + n)) ∗ receiving m c (from_ (16 + n)))) fun i p =>
    relay_whole m K c ⟨16 + i.val, by omega⟩ p Q

/-! ## The sends of the last kind -/

/-- Eleven chunks from the neighbour along `z` are sent on along `x`. -/
theorem loop_onX (c : Dev nD) (p : P F) (Q : PUnit → sProp 𝕄) :
    iprop(ctx m K ∗ sending c (from_ 107) ∗ receiving m c (onX 0))
      ⊢ iprop(((sending c (from_ 118) ∗ receiving m c (onX 11)) -∗ WP c p Q)
        -∗ WP c (loop 11 (fun i p => await (recvS (n3 ⟨11 + i.val, by omega⟩)) (o2 c ⟨11 + i.val, by omega⟩) (o2 c ⟨11 + i.val, by omega⟩)
          (send (o4a c i) (o4a c i) (toX c) (n4a i) p)) p) Q) :=
  wp_loop c (ctx m K) Q p 11 _ (fun n => iprop(sending c (from_ (107 + n)) ∗ receiving m c (onX n))) fun i p => by
    have hi := i.isLt
    have hc0 : 11 + i.val < 32 := by omega
    have hs : source (n4a i) = n3 ⟨11 + i.val, by omega⟩ := by revert hi; revert i; decide
    have hn : n3 ⟨11 + i.val, by omega⟩ ∉ onX (i.val + 1) := fun h => by have := mem_ks.mp h; dsimp only at this; omega
    rw [o4a_eq, toX_n4a c i]
    iintro ⟨#HC, H⟩ Hk
    iapply (recv_step m K c (n3 ⟨11 + i.val, hc0⟩) (from_ (107 + i.val)) (onX i.val) (onX (i.val + 1))
      (ks_insert _ fun j _ => by show _ ↔ j = 75 + (11 + i.val) ∨ _; omega) hn
      (fun j hj => hop_lt (Or.inr ⟨by show 75 + (11 + i.val) < 107; omega, by have := mem_ks.mp hj; omega⟩)) (credit_o2 c _) _ Q) $$ [H]
    · isplitr; · iexact HC
      iexact H
    iintro H
    iapply (relay_step m K c (n4a i) (by show ¬ (107 + i.val < 43); omega) (from_ (107 + i.val)) (from_ (107 + (i.val + 1))) (onX (i.val + 1))
      (ks_insert _ fun j _ => by show _ ↔ j = 107 + i.val ∨ _; omega)
      (fun h => by have := mem_ks.mp h; dsimp only at this; omega) (by rw [hs]; exact hn) _ Q) $$ [H]
    · isplitr; · iexact HC
      iexact H
    iexact Hk

/-- Ten chunks from the neighbour along `x` are sent on along `z`. -/
theorem loop_onZ (c : Dev nD) (p : P F) (Q : PUnit → sProp 𝕄) :
    iprop(ctx m K ∗ sending c (from_ 118) ∗ receiving m c (onZ 0))
      ⊢ iprop(((sending c (from_ 128) ∗ receiving m c (onZ 10)) -∗ WP c p Q)
        -∗ WP c (loop 10 (fun i p => await (recvS (n2 ⟨22 + i.val, by omega⟩)) (o2 c ⟨22 + i.val, by omega⟩) (o2 c ⟨22 + i.val, by omega⟩)
          (send (o4b c i) (o4b c i) (toZ c) (n4b i) p)) p) Q) :=
  wp_loop c (ctx m K) Q p 10 _ (fun n => iprop(sending c (from_ (118 + n)) ∗ receiving m c (onZ n))) fun i p => by
    have hi := i.isLt
    have hc0 : 22 + i.val < 32 := by omega
    have hs : source (n4b i) = n2 ⟨22 + i.val, by omega⟩ := by revert hi; revert i; decide
    have hn : n2 ⟨22 + i.val, by omega⟩ ∉ onZ (i.val + 1) := fun h => by have := mem_ks.mp h; dsimp only at this; omega
    rw [o4b_eq, toZ_n4b c i]
    iintro ⟨#HC, H⟩ Hk
    iapply (recv_step m K c (n2 ⟨22 + i.val, hc0⟩) (from_ (118 + i.val)) (onZ i.val) (onZ (i.val + 1))
      (ks_insert _ fun j _ => by show _ ↔ j = 43 + (22 + i.val) ∨ _; omega) hn
      (fun j hj => hop_lt (Or.inr ⟨by show 43 + (22 + i.val) < 107; omega, by have := mem_ks.mp hj; omega⟩)) (credit_o2 c _) _ Q) $$ [H]
    · isplitr; · iexact HC
      iexact H
    iintro H
    iapply (relay_step m K c (n4b i) (by show ¬ (118 + i.val < 43); omega) (from_ (118 + i.val)) (from_ (118 + (i.val + 1))) (onZ (i.val + 1))
      (ks_insert _ fun j _ => by show _ ↔ j = 118 + i.val ∨ _; omega)
      (fun h => by have := mem_ks.mp h; dsimp only at this; omega) (by rw [hs]; exact hn) _ Q) $$ [H]
    · isplitr; · iexact HC
      iexact H
    iexact Hk

/-! ## The remaining receives -/

theorem no_hop (k : Fin 128) : ∀ j ∈ from_ 128, hop k < hop j := fun j hj => absurd (mem_ks.mp hj) (by have := j.isLt; omega)

/-- A loop of receives, when nothing remains to be sent: step `i` awaits transfer `a + i`. -/
theorem loop_recv (c : Dev nD) (p : P F) (Q : PUnit → sProp 𝕄) (n : ℕ) (D : ℕ → Finset (Fin 128)) (k : Fin n → Fin 128)
    (src dst : Fin n → Memref sig .tc .hbm S128x1024 .f32) (hN : ∀ i, (dst i).view.dmaCredit = N)
    (hD : ∀ i : Fin n, D i.val = insert (k i) (D (i.val + 1)) ∧ k i ∉ D (i.val + 1)) :
    iprop(ctx m K ∗ sending c (from_ 128) ∗ receiving m c (D 0))
      ⊢ iprop(((sending c (from_ 128) ∗ receiving m c (D n)) -∗ WP c p Q) -∗ WP c (loop n (fun i => await (recvS (k i)) (src i) (dst i)) p) Q) :=
  wp_loop c (ctx m K) Q p n _ (fun n => iprop(sending c (from_ 128) ∗ receiving m c (D n))) fun i p =>
    recv_step m K c (k i) _ _ _ (hD i).1 (hD i).2 (no_hop _) (hN i) p Q

/-- The loop that awaits a chunk from each of two neighbours at a time. -/
theorem loop_both (c : Dev nD) (p : P F) (Q : PUnit → sProp 𝕄) :
    iprop(ctx m K ∗ sending c (from_ 128) ∗ receiving m c (both 0))
      ⊢ iprop(((sending c (from_ 128) ∗ receiving m c (both 11)) -∗ WP c p Q)
        -∗ WP c (loop 11 (fun i p => await (recvS (n2 ⟨i.val, by omega⟩)) (o2 c ⟨i.val, by omega⟩) (o2 c ⟨i.val, by omega⟩)
          (await (recvS (n3 ⟨i.val, by omega⟩)) (o2 c ⟨i.val, by omega⟩) (o2 c ⟨i.val, by omega⟩) p)) p) Q) :=
  wp_loop c (ctx m K) Q p 11 _ (fun n => iprop(sending c (from_ 128) ∗ receiving m c (both n))) fun i p => by
    have hi := i.isLt
    have hc0 : i.val < 32 := by omega
    iintro ⟨#HC, H⟩ Hk
    iapply (recv_step m K c (n2 ⟨i.val, hc0⟩) (from_ 128) (both i.val) (both' i.val)
      (ks_insert _ fun j _ => by show _ ↔ j = 43 + i.val ∨ _; omega)
      (fun h => by have := mem_ks.mp h; dsimp only at this; omega) (no_hop _) (credit_o2 c _) _ Q) $$ [H]
    · isplitr; · iexact HC
      iexact H
    iintro H
    iapply (recv_step m K c (n3 ⟨i.val, hc0⟩) (from_ 128) (both' i.val) (both (i.val + 1))
      (ks_insert _ fun j _ => by show _ ↔ j = 75 + i.val ∨ _; omega)
      (fun h => by have := mem_ks.mp h; dsimp only at this; omega) (no_hop _) (credit_o2 c _) _ Q) $$ [H]
    · isplitr; · iexact HC
      iexact H
    iexact Hk

/-- A loop that sees transfers leave: step `i` awaits transfer `a + i`. -/
theorem loop_leave (c : Dev nD) (p : P F) (Q : PUnit → sProp 𝕄) (n a : ℕ) (k : Fin n → Fin 128) (hk : ∀ i, (k i).val = a + i.val)
    (src dst : Fin n → Memref sig .tc .hbm S128x1024 .f32) (hN : ∀ i, (dst i).view.dmaCredit = N) :
    iprop(ctx m K ∗ leaving c (from_ a))
      ⊢ iprop((leaving c (from_ (a + n)) -∗ WP c p Q) -∗ WP c (loop n (fun i => await (sendS (k i)) (src i) (dst i)) p) Q) :=
  wp_loop c (ctx m K) Q p n _ (fun n => leaving c (from_ (a + n))) fun i p =>
    wp_leave m K c (k i) _ _ (ks_insert _ fun j _ => by rw [hk]; omega)
      (fun h => by have := mem_ks.mp h; rw [hk] at this; omega) (hN i) p Q

end Cert.KernelIdeal.Run
end
-- ==== Proof.Body.lean ====
/-
The body of the kernel on one device: what it is entered with, and what it leaves.
-/
module

public import proofs.«01_k».proof.Proof.Loops

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## The directions -/

/-- A family over all transfers, direction by direction. -/
theorem by_direction (Φ : Fin 128 → sProp 𝕄) : (bigSep Finset.univ fun a => bigSep (going a) Φ) = bigSep Finset.univ Φ := by
  have h (a : Fin 3) : bigSep (going a) Φ = bigSep Finset.univ fun k => if dir k = a then Φ k else BI.emp := by
    unfold going; rw [bigSep_filter]
  simp only [h]
  rw [bigSep_univ_comm]
  refine bigSep_congr fun k _ => ?_
  have h' := bigSep_filter Finset.univ (fun a => dir k = a) (fun _ : Fin 3 => Φ k)
  rw [Finset.filter_eq, if_pos (Finset.mem_univ _), bigSep_singleton] at h'
  exact h'.symm

/-- What the neighbours pay in is the room this device sends into. -/
theorem paid_in (c : Dev nD) :
    (bigSep Finset.univ fun a => barPay (F := F) c a) = bigSep Finset.univ fun k => room (F := F) (tgt k c) (blk (tgt k c) k) := by
  rw [← by_direction]
  refine bigSep_congr fun a _ => bigSep_congr fun k hk => ?_
  have e : dir k = a := (Finset.mem_filter.mp hk).2
  subst e
  rfl

/-- What this device pays out is the room the others send into. -/
theorem paid_out (c : Dev nD) :
    (bigSep Finset.univ fun a => barPay (F := F) (nbr a c) a) = bigSep Finset.univ fun k => room (F := F) c (blk c k) := by
  rw [← by_direction]
  refine bigSep_congr fun a _ => ?_
  unfold barPay
  rw [nbr_nbr]

theorem three (Φ : Fin 3 → sProp 𝕄) : bigSep Finset.univ Φ = iprop(Φ 0 ∗ Φ 1 ∗ Φ 2) :=
  bigSep_univ_eq_bigSepL [0, 1, 2] (by decide) (by decide) Φ

/-! ## Before and after -/

/-- The tokens and the positions of the transfers a device sends. -/
def tickets (c : Dev nD) : sProp 𝕄 :=
  bigSep Finset.univ fun k => iprop(atPos ER (cell c (.snd k)) 0 ∅ 0 ∗ dutyTok ER (cell c (.snd k)) 0 0
    ∗ dutyTok ER (cell (tgt k c) (.rcv k)) 0 0)

/-- What device `c` is entered with, besides what it owes. -/
def before (c : Dev nD) : sProp 𝕄 :=
  iprop((bigSep Finset.univ fun a => dutyTok ER (cell (nbr a c) .bar) 0 a)
    ∗ (bigSep Finset.univ fun k => room (F := F) c (blk c k))
    ∗ cred (tallyAt (cell c .bar) () 3) ∗ atPos ER (cell c .bar) 0 ∅ 0
    ∗ xs m c ∗ tickets c ∗ due c Finset.univ ∗ spare c 0 0 ∗ spare c 1 0 ∗ bigSep Finset.univ fun k => plan c k)

/-- What it leaves, besides that it owes nothing. -/
def after (c : Dev nD) : sProp 𝕄 :=
  iprop(atPos ER (cell c .bar) 1 ∅ 0 ∗ xs m c ∗ away c Finset.univ ∗ come m c Finset.univ
    ∗ spare c 0 8 ∗ spare c 1 8 ∗ bigSep Finset.univ fun k => block m c k)

/-- The state after the exchange of signals. -/
def opened (c : Dev nD) : sProp 𝕄 :=
  iprop(atPos ER (cell c .bar) 1 ∅ 0 ∗ xs m c ∗ sending c (from_ 0) ∗ receiving m c (from_ 0) ∗ copying m c 0)

/-- The exchange of signals. -/
theorem opening (c : Dev nD) (p : P F) (Q : PUnit → sProp 𝕄) :
    iprop(ctx m K ∗ before m c ∗ ∃ W, owes (c : Thread nD τ) (O₀ c) W)
      ⊢ iprop((opened m c -∗ WP c p Q) -∗ WP c (signal (toY c) <| signal (toX c) <| signal (toZ c) <| ready p) Q) := by
  have hU : from_ 0 = Finset.univ := ks_univ fun j _ => Nat.zero_le j
  have hE : (from_ 0)ᶜ = ∅ := by rw [hU, Finset.compl_univ]
  have hB : (ks (n := 16) fun j => 0 ≤ j) = Finset.univ := ks_univ fun j _ => Nat.zero_le j
  have hB' : (ks (n := 16) fun j => j + 2 < 0 + 0) = ∅ := ks_empty fun j _ => by omega
  have hgone : emp ⊢ gone (F := F) c (from_ 0)ᶜ := by rw [hE]; unfold gone; exact Entails.of_eq bigSep_empty.symm
  have hcome : emp ⊢ come m c (from_ 0)ᶜ := by rw [hE]; unfold come; exact Entails.of_eq bigSep_empty.symm
  have hmade : emp ⊢ bigSep (ks fun j => j + 2 < 0 + 0) fun k => block m c k := by rw [hB']; exact Entails.of_eq bigSep_empty.symm
  have htodo : iprop(tickets c ∗ bigSep Finset.univ fun a => barPay (F := F) c a) ⊢ todo (F := F) c (from_ 0) := by
    rw [paid_in, hU]; unfold tickets todo; rw [← bigSep_sep']
    refine bigSep_mono fun k _ => ?_
    show iprop((atPos ER (cell c (.snd k)) 0 ∅ 0 ∗ dutyTok ER (cell c (.snd k)) 0 0 ∗ dutyTok ER (cell (tgt k c) (.rcv k)) 0 0)
        ∗ room (F := F) (tgt k c) (blk (tgt k c) k)) ⊢ _
    iintro ⟨⟨H1, H2, H3⟩, H4⟩
    isplitl [H1]; · iexact H1
    isplitl [H2]; · iexact H2
    isplitl [H3] <;> iassumption
  rw [toY_eq, toX_eq, toZ_eq]
  unfold before opened
  rw [← paid_out, three, three]
  iintro ⟨#HC, ⟨⟨Ht0, Ht1, Ht2⟩, ⟨Hr0, Hr1, Hr2⟩, Hcr, Hat, Hx, Htick, Hdue, Hs0, Hs1, Hplan⟩, ⟨%W, HO⟩⟩ Hk
  iapply (wp_signal m K c 0 (O₀ c) _ rfl W _ Q) $$ [HO Ht0 Hr0]
  · isplitr; · iexact HC
    isplitl [HO]; · iexact HO
    isplitl [Ht0] <;> iassumption
  iintro HO
  iapply (wp_signal m K c 1 _ _ rfl W _ Q) $$ [HO Ht1 Hr1]
  · isplitr; · iexact HC
    isplitl [HO]; · iexact HO
    isplitl [Ht1] <;> iassumption
  iintro HO
  iapply (wp_signal m K c 2 _ _ rfl W _ Q) $$ [HO Ht2 Hr2]
  · isplitr; · iexact HC
    isplitl [HO]; · iexact HO
    isplitl [Ht2] <;> iassumption
  iintro HO
  iapply (wp_ready m K c Finset.univ p Q) $$ [HO Hcr Hat]
  · isplitr; · iexact HC
    isplitl [HO]; · unfold ows; iexists _; iexact HO
    isplitl [Hcr] <;> iassumption
  iintro ⟨HO, Hat, Hpay⟩
  iapply Hk
  isplitl [Hat]; · iexact Hat
  isplitl [Hx]; · iexact Hx
  unfold sending receiving copying
  isplitr [Hdue Hs0 Hs1 Hplan]
  · isplitl [HO]; · rw [hU]; iexact HO
    isplitr []
    · iapply htodo; isplitl [Htick] <;> iassumption
    · iapply hgone; iempintro
  isplitl [Hdue]
  · isplitl [Hdue]; · rw [hU]; iexact Hdue
    iapply hcome; iempintro
  · isplitl [Hs0]; · iapply (Entails.of_eq (occ_small c 0 (by decide)).symm); iexact Hs0
    isplitl [Hs1]; · iapply (Entails.of_eq (occ_small c 1 (by decide)).symm); iexact Hs1
    isplitl [Hplan]; · rw [hB]; iexact Hplan
    iapply hmade; iempintro

/-! ## The whole body -/

/-- A program that has ended has reached its end. -/
theorem wp_end (c : Dev nD) (Q : PUnit → sProp 𝕄) : Q ⟨⟩ ⊢ WP c (.ret ⟨⟩) Q := by
  show Q ⟨⟩ ⊢ wp frame (wpE (defs₀ (F := F)) 𝒱₀ (c : Thread nD τ) none) Set.univ (.ret ⟨⟩) Q
  rw [wp_ret]
  exact fupd_intro

/-- The last two blocks arrive. -/
theorem closing_blocks (c : Dev nD) (p : P F) (Q : PUnit → sProp 𝕄) :
    iprop(ctx m K ∗ ows c ∅ ∗ copying m c 16)
      ⊢ iprop(((ows c ∅ ∗ spare c 0 8 ∗ spare c 1 8 ∗ bigSep Finset.univ fun k => block m c k) -∗ WP c p Q)
        -∗ WP c (stored (ob c 14) (par 14) <| stored (ob c 15) (par 15) p) Q) := by
  have h14 : (Finset.univ : Finset (Fin 16)) = insert 15 (insert 14 (ks fun j => j + 2 < 16 + 0)) := by decide
  unfold copying
  iintro ⟨#HC, HO, ⟨Ho, Ho', -, Hb⟩⟩ Hk
  iapply (wp_stored m K c 14 ∅ (fun j _ => hop_pos j) _ Q) $$ [HO Ho]
  · isplitr; · iexact HC
    isplitl [HO]; · iexact HO
    iapply (Entails.of_eq (occ_large c 14)); iexact Ho
  iintro ⟨HO, Hs0, Hb14⟩
  iapply (wp_stored m K c 15 ∅ (fun j _ => hop_pos j) _ Q) $$ [HO Ho']
  · isplitr; · iexact HC
    isplitl [HO]; · iexact HO
    iapply (Entails.of_eq (occ_large c 15)); iexact Ho'
  iintro ⟨HO, Hs1, Hb15⟩
  iapply Hk
  isplitl [HO]; · iexact HO
  isplitl [Hs0]; · iexact Hs0
  isplitl [Hs1]; · iexact Hs1
  rw [h14, family_insert (by decide), family_insert (by decide)]
  isplitl [Hb15]; · iexact Hb15
  isplitl [Hb14] <;> iassumption

/-- When all has been sent, all of it remains to be seen to leave. -/
theorem all_sent (c : Dev nD) : sending c (from_ 128) ⊢ leaving (F := F) c (from_ 0) := by
  have hE : from_ 128 = ∅ := ks_empty fun j h => by omega
  have hU : from_ 0 = Finset.univ := ks_univ fun j _ => Nat.zero_le j
  have haway : emp ⊢ away (F := F) c ∅ := by unfold away; exact Entails.of_eq bigSep_empty.symm
  unfold sending leaving
  rw [hE, hU, Finset.compl_empty, Finset.compl_univ]
  iintro ⟨HO, -, Hg⟩
  isplitl [HO]; · iexact HO
  isplitl [Hg]; · iexact Hg
  iapply haway; iempintro

/-- When all have been seen to leave, nothing is owed. -/
theorem all_left (c : Dev nD) : leaving c (from_ 128) ⊢ iprop(ows (F := F) c ∅ ∗ away c Finset.univ) := by
  have hE : from_ 128 = ∅ := ks_empty fun j h => by omega
  unfold leaving
  rw [hE, Finset.compl_empty]
  iintro ⟨HO, -, Ha⟩
  isplitl [HO] <;> iassumption

theorem all_come (c : Dev nD) : receiving m c (from_ 128) ⊢ come m c Finset.univ := by
  have hE : from_ 128 = ∅ := ks_empty fun j h => by omega
  unfold receiving
  rw [hE, Finset.compl_empty]
  iintro ⟨-, H⟩
  iexact H

/-- The body runs safely from what it is entered with to what it leaves, and then owes nothing. -/
theorem body_runs (c : Dev nD) (Q : PUnit → sProp 𝕄) :
    iprop(ctx m K ∗ before m c ∗ ∃ W, owes (c : Thread nD τ) (O₀ c) W)
      ⊢ iprop(((ows c ∅ ∗ after m c) -∗ Q ⟨⟩) -∗ WP c (body c) Q) := by
  have e1 : from_ 43 = relayS 0 := ks_congr fun j _ => by omega
  have e2 : relayS 32 = from_ 107 := ks_congr fun j _ => by omega
  have e3 : from_ 32 = onX 0 := ks_congr fun j _ => by omega
  have e4 : onX 11 = onZ 0 := ks_congr fun j _ => by omega
  have e5 : onZ 10 = diag 0 := ks_congr fun j _ => by omega
  have e6 : diag 11 = both 0 := ks_congr fun j _ => by omega
  have e7 : both 11 = restX 0 := ks_congr fun j _ => by omega
  have e8 : restX 11 = from_ 97 := ks_congr fun j _ => by omega
  unfold body
  iintro ⟨#HC, H⟩ Hk
  iapply (opening m K c _ Q) $$ [H]
  · isplitr; · iexact HC
    iexact H
  unfold opened
  iintro ⟨Hbar, Hx, Hs, Hr, Hc⟩
  iapply (loop_first m K c _ Q) $$ [Hx Hs]
  · isplitr; · iexact HC
    isplitl [Hx] <;> iassumption
  iintro ⟨Hx, Hs⟩
  iapply (loop_diag m K c _ Q) $$ [Hx Hs]
  · isplitr; · iexact HC
    isplitl [Hx] <;> iassumption
  iintro ⟨Hx, Hs⟩
  rw [e1]
  iapply (loop_relay2 m K c _ Q) $$ [Hx Hs Hr Hc]
  · isplitr; · iexact HC
    unfold mid
    isplitl [Hx]; · iexact Hx
    isplitl [Hc]; · iexact Hc
    isplitl [Hs] <;> iassumption
  iintro H
  iapply (loop_relay14 m K c _ Q) $$ [H]
  · isplitr; · iexact HC
    iexact H
  unfold mid
  iintro ⟨Hx, Hc, H⟩
  iapply (loop_relay16 m K c _ Q) $$ [H]
  · isplitr; · iexact HC
    iexact H
  rw [e2, e3]
  iintro H
  iapply (loop_onX m K c _ Q) $$ [H]
  · isplitr; · iexact HC
    iexact H
  rw [e4]
  iintro H
  iapply (loop_onZ m K c _ Q) $$ [H]
  · isplitr; · iexact HC
    iexact H
  rw [e5]
  iintro H
  iapply (loop_recv m K c _ Q 11 diag n1d (x1d c) (o1d c) (credit_o1d c) (fun i =>
    ⟨ks_insert _ fun j _ => by show _ ↔ j = 32 + i.val ∨ _; omega, fun h => by have := mem_ks.mp h; dsimp only at this; omega⟩)) $$ [H]
  · isplitr; · iexact HC
    iexact H
  rw [e6]
  iintro H
  iapply (loop_both m K c _ Q) $$ [H]
  · isplitr; · iexact HC
    iexact H
  rw [e7]
  iintro H
  iapply (loop_recv m K c _ Q 11 restX (fun i => n2 ⟨11 + i.val, by omega⟩) (fun i => o2 c ⟨11 + i.val, by omega⟩)
    (fun i => o2 c ⟨11 + i.val, by omega⟩) (fun i => credit_o2 c _) (fun i =>
    ⟨ks_insert _ fun j _ => by show _ ↔ j = 43 + (11 + i.val) ∨ _; omega, fun h => by have := mem_ks.mp h; dsimp only at this; omega⟩)) $$ [H]
  · isplitr; · iexact HC
    iexact H
  rw [e8]
  iintro H
  iapply (loop_recv m K c _ Q 10 (fun n => from_ (97 + n)) (fun i => n3 ⟨22 + i.val, by omega⟩) (fun i => o2 c ⟨22 + i.val, by omega⟩)
    (fun i => o2 c ⟨22 + i.val, by omega⟩) (fun i => credit_o2 c _) (fun i =>
    ⟨ks_insert _ fun j _ => by show _ ↔ j = 75 + (22 + i.val) ∨ _; omega, fun h => by have := mem_ks.mp h; dsimp only at this; omega⟩)) $$ [H]
  · isplitr; · iexact HC
    iexact H
  iintro H
  iapply (loop_recv m K c _ Q 11 (fun n => from_ (107 + n)) n4a (o4a c) (o4a c) (credit_o4a c) (fun i =>
    ⟨ks_insert _ fun j _ => by show _ ↔ j = 107 + i.val ∨ _; omega, fun h => by have := mem_ks.mp h; dsimp only at this; omega⟩)) $$ [H]
  · isplitr; · iexact HC
    iexact H
  iintro H
  iapply (loop_recv m K c _ Q 10 (fun n => from_ (118 + n)) n4b (o4b c) (o4b c) (credit_o4b c) (fun i =>
    ⟨ks_insert _ fun j _ => by show _ ↔ j = 118 + i.val ∨ _; omega, fun h => by have := mem_ks.mp h; dsimp only at this; omega⟩)) $$ [H]
  · isplitr; · iexact HC
    iexact H
  iintro ⟨Hs, Hr⟩
  ihave Hr := (all_come m c) $$ Hr
  ihave Hs := (all_sent c) $$ Hs
  unfold leaving
  icases Hs with ⟨HO, Hs⟩
  iapply (closing_blocks m K c _ Q) $$ [HO Hc]
  · isplitr; · iexact HC
    isplitl [HO] <;> iassumption
  iintro ⟨HO, Hs0, Hs1, Hb⟩
  iapply (loop_leave m K c _ Q 32 0 n1 (fun i => (Nat.zero_add _).symm) (o1 c) (x1 c) (credit_x1 c)) $$ [HO Hs]
  · isplitr; · iexact HC
    unfold leaving
    isplitl [HO] <;> iassumption
  iintro H
  iapply (loop_leave m K c _ Q 11 32 n1d (fun i => rfl) (o1d c) (x1d c) (credit_x1d c)) $$ [H]
  · isplitr; · iexact HC
    iexact H
  iintro H
  iapply (loop_leave m K c _ Q 32 43 n2 (fun i => rfl) (o2 c) (o2 c) (credit_o2 c)) $$ [H]
  · isplitr; · iexact HC
    iexact H
  iintro H
  iapply (loop_leave m K c _ Q 32 75 n3 (fun i => rfl) (o2 c) (o2 c) (credit_o2 c)) $$ [H]
  · isplitr; · iexact HC
    iexact H
  iintro H
  iapply (loop_leave m K c _ Q 11 107 n4a (fun i => rfl) (o4a c) (o4a c) (credit_o4a c)) $$ [H]
  · isplitr; · iexact HC
    iexact H
  iintro H
  iapply (loop_leave m K c _ Q 10 118 n4b (fun i => rfl) (o4b c) (o4b c) (credit_o4b c)) $$ [H]
  · isplitr; · iexact HC
    iexact H
  iintro H
  ihave H := (all_left c) $$ H
  icases H with ⟨HO, Ha⟩
  iapply (wp_end c Q)
  iapply Hk
  unfold after
  isplitl [HO]; · iexact HO
  isplitl [Hbar]; · iexact Hbar
  isplitl [Hx]; · iexact Hx
  isplitl [Ha]; · iexact Ha
  isplitl [Hr]; · iexact Hr
  isplitl [Hs0]; · iexact Hs0
  isplitl [Hs1] <;> iassumption

end Cert.KernelIdeal.Run
end
-- ==== Proof.Ghost.lean ====
/-
What the launch deals the devices: the cells of all their semaphores, the positions at them, the tokens of the duties,
dealt to the devices that pay them, and the credit that the devices owe one another.
-/
module

public import proofs.«01_k».proof.Proof.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores by their use -/

/-- A semaphore is the start-up semaphore or one of the others. -/
theorem sems_split (Φ : SemLoc sig → sProp 𝕄) :
    bigSep Finset.univ Φ = iprop(Φ (.reg barS) ∗ bigSep Finset.univ fun q : DmaSem sig => Φ (.dma q)) := by
  rw [bigSep_univ_equiv (SemLoc.equivSum sig).symm Φ, bigSep_univ_sum]
  refine congrArg₂ _ ?_ rfl
  rw [show (Finset.univ : Finset (Sem sig)) = {barS} from by decide, bigSep_singleton]
  rfl

/-- The places of the semaphores. -/
abbrev Port : Type := Unit ⊕ Fin 128 ⊕ Fin 128 ⊕ Fin 2 ⊕ Fin 2

/-- The use of each. -/
def port : Port → Use
  | .inl _ => .bar
  | .inr (.inl k) => .snd k
  | .inr (.inr (.inl k)) => .rcv k
  | .inr (.inr (.inr (.inl s))) => .ins s
  | .inr (.inr (.inr (.inr s))) => .outs s

theorem port_injective : Function.Injective port := by
  rintro (a | a | a | a | a) (b | b | b | b | b) h <;> cases h <;> rfl

/-- Every semaphore has one place. -/
def portE : Port ≃ SemLoc sig :=
  Equiv.ofBijective (fun p => semOf (port p))
    ((Fintype.bijective_iff_injective_and_card _).mpr
      ⟨semOf_injective.comp port_injective, by rw [SemLoc.card_eq]; rfl⟩)

/-- A family over the semaphores, use by use. -/
theorem sems_by_use (Φ : SemLoc sig → sProp 𝕄) :
    bigSep Finset.univ Φ = iprop(Φ (semOf .bar) ∗ (bigSep Finset.univ fun k => Φ (semOf (.snd k)))
      ∗ (bigSep Finset.univ fun k => Φ (semOf (.rcv k))) ∗ (bigSep Finset.univ fun s => Φ (semOf (.ins s)))
      ∗ bigSep Finset.univ fun s => Φ (semOf (.outs s))) := by
  rw [bigSep_univ_equiv portE Φ, bigSep_univ_sum, bigSep_univ_sum, bigSep_univ_sum, bigSep_univ_sum]
  refine congrArg₂ _ ?_ rfl
  rw [show (Finset.univ : Finset Unit) = {()} from rfl, bigSep_singleton]
  rfl

/-! ## The cells -/

abbrev gcell (g : Dev nD × SemLoc sig) : GSem nD τ sig := ((g.1 : Thread nD τ), g.2)

theorem gcell_injective : Function.Injective gcell := by
  rintro ⟨c, s⟩ ⟨c', s'⟩ h
  have h1 : c = c' := congrArg (fun g : GSem nD τ sig => g.1.1) h
  have h2 : s = s' := congrArg Prod.snd h
  rw [h1, h2]

theorem cell_inj {c c' : Dev nD} {u u' : Use} (h : cell c u = cell c' u') : c = c' ∧ u = u' :=
  ⟨congrArg (fun g : GSem nD τ sig => g.1.1) h, semOf_injective (congrArg Prod.snd h)⟩

def allCells : Finset (GSem nD τ sig) := Finset.univ.map ⟨gcell, gcell_injective⟩

/-! ## The tokens -/

/-- The duties at one device's cells. -/
abbrev Duty : Type := Fin 3 ⊕ Fin 128 ⊕ Fin 128 ⊕ Fin 16 ⊕ Fin 16

/-- The use, the round and the name of each. -/
def duty : Duty → Use × ℕ × Fin 3
  | .inl a => (.bar, 0, a)
  | .inr (.inl k) => (.snd k, 0, 0)
  | .inr (.inr (.inl k)) => (.rcv k, 0, 0)
  | .inr (.inr (.inr (.inl k))) => (.ins (par k), k.val / 2, 0)
  | .inr (.inr (.inr (.inr k))) => (.outs (par k), k.val / 2, 0)

theorem par_half {a b : Fin 16} (h : par a = par b) (h' : a.val / 2 = b.val / 2) : a = b := by
  have e : a.val % 2 = b.val % 2 := congrArg Fin.val h
  exact Fin.ext (by omega)

theorem duty_injective : Function.Injective duty := by
  rintro (a | a | a | a | a) (b | b | b | b | b) h <;>
    first
    | (cases h; rfl)
    | (have h1 := congrArg (fun x => x.1) h; cases h1)
    | (have h1 : Use.ins (par a) = Use.ins (par b) := congrArg (fun x => x.1) h
       have h2 : a.val / 2 = b.val / 2 := congrArg (fun x => x.2.1) h
       rw [par_half (Use.ins.inj h1) h2])
    | (have h1 : Use.outs (par a) = Use.outs (par b) := congrArg (fun x => x.1) h
       have h2 : a.val / 2 = b.val / 2 := congrArg (fun x => x.2.1) h
       rw [par_half (Use.outs.inj h1) h2])

abbrev tokOf (x : Dev nD × Duty) : GSem nD τ sig × ℕ × Fin 3 := (cell x.1 (duty x.2).1, (duty x.2).2)

theorem tokOf_injective : Function.Injective tokOf := by
  rintro ⟨c, d⟩ ⟨c', d'⟩ h
  obtain ⟨h1, h2⟩ := cell_inj (congrArg Prod.fst h)
  have h3 : (duty d).2 = (duty d').2 := congrArg (fun x : GSem nD τ sig × ℕ × Fin 3 => x.2) h
  have h4 : d = d' := duty_injective (Prod.ext h2 h3)
  subst h1 h4; rfl

def allToks : Finset (GSem nD τ sig × ℕ × Fin 3) := Finset.univ.map ⟨tokOf, tokOf_injective⟩

/-- The tokens at device `c`'s cells. -/
def toks (c : Dev nD) : sProp 𝕄 :=
  iprop((bigSep Finset.univ fun a => dutyTok ER (cell c .bar) 0 a) ∗ (bigSep Finset.univ fun k => dutyTok ER (cell c (.snd k)) 0 0)
    ∗ (bigSep Finset.univ fun k => dutyTok ER (cell c (.rcv k)) 0 0)
    ∗ (bigSep Finset.univ fun k => dutyTok ER (cell c (.ins (par k))) (k.val / 2) 0)
    ∗ bigSep Finset.univ fun k => dutyTok ER (cell c (.outs (par k))) (k.val / 2) 0)

/-- The tokens of the duties device `c` pays. -/
def payToks (c : Dev nD) : sProp 𝕄 :=
  iprop((bigSep Finset.univ fun a => dutyTok ER (cell (nbr a c) .bar) 0 a) ∗ (bigSep Finset.univ fun k => dutyTok ER (cell c (.snd k)) 0 0)
    ∗ (bigSep Finset.univ fun k => dutyTok ER (cell (tgt k c) (.rcv k)) 0 0)
    ∗ (bigSep Finset.univ fun k => dutyTok ER (cell c (.ins (par k))) (k.val / 2) 0)
    ∗ bigSep Finset.univ fun k => dutyTok ER (cell c (.outs (par k))) (k.val / 2) 0)

/-- A family over the devices and a second number, dealt anew for each value of that number by exchanging devices. -/
theorem dealt {ι : Type} [Fintype ι] (e : ι → Dev nD → Dev nD) (he : ∀ i c, e i (e i c) = c) (Φ : Dev nD → ι → sProp 𝕄) :
    (bigSep Finset.univ fun c => bigSep Finset.univ fun i => Φ c i)
      = bigSep Finset.univ fun c => bigSep Finset.univ fun i => Φ (e i c) i := by
  rw [bigSep_univ_comm, bigSep_univ_comm (fun c i => Φ (e i c) i)]
  exact bigSep_congr fun i _ => bigSep_univ_equiv ⟨e i, e i, he i, he i⟩ (fun c => Φ c i)

theorem toks_dealt : (bigSep Finset.univ fun c : Dev nD => (toks c : sProp 𝕄)) = bigSep Finset.univ fun c : Dev nD => payToks c := by
  unfold toks payToks
  simp only [bigSep_sep']
  rw [dealt nbr (fun a c => nbr_nbr a c) (fun c a => dutyTok ER (cell c .bar) 0 a),
    dealt tgt (fun k c => tgt_tgt k c) (fun c k => dutyTok ER (cell c (.rcv k)) 0 0)]

/-! ## What the launch deals -/

def u₀ : UU :=
  (initOf (Pipeline.cells cfgs cellOf_inj) (Pipeline.launchToks cfgs cellOf_inj), initOf allCells allToks)

/-- What device `c` is dealt. -/
def dealtTo (c : Dev nD) : sProp 𝕄 :=
  iprop((bigSep Finset.univ fun s : SemLoc sig => roundState ER (sched m) (gcell (c, s)) 0)
    ∗ (bigSep Finset.univ fun s : SemLoc sig => iprop(atPos ER (gcell (c, s)) 0 ∅ 0 ∗ reached ER (gcell (c, s)) 0)) ∗ toks c)

theorem funded : BI.own (ER (initOf allCells allToks)) ⊢ (|==> bigSep Finset.univ (dealtTo m) : sProp 𝕄) := by
  have hX (Φ : GSem nD τ sig → sProp 𝕄) : bigSep allCells Φ
      = bigSep Finset.univ fun c : Dev nD => bigSep Finset.univ fun s : SemLoc sig => Φ (gcell (c, s)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_sum, bigSep_univ_sum, bigSep_univ_sum]
    rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealtTo; simp only [bigSep_sep']
  isplitl [Hst']; · iexact Hst'
  isplitl [Hat' Hr']
  · isplitl [Hat'] <;> iassumption
  iexact Htok'

/-! ## The cells are opened -/

/-- The kernel's own semaphores: all but the start-up semaphore. -/
abbrev osem : DmaSem sig → SemLoc sig := fun q => .dma q

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- The semaphores at zero, one family. -/
theorem sems0_eq (c : Dev nD) :
    (bigSep Finset.univ fun s : SemLoc sig => semVal (gcell (c, s)) 0 : sProp 𝕄)
      = iprop(unscopedSems0 c ∗ Pipeline.ownSems0 (Ix := Unit) (Name := ℕ) (U := UU) (Lvl := ℕ) (Val := Elt F) (τ := τ) osem c) := by
  rw [sems_split, unscopedSems0_eq]; rfl

theorem core_alloc (c : Dev nD) :
    iprop(Pipeline.ownSems0 (Ix := Unit) (Name := ℕ) (U := UU) (Lvl := ℕ) (Val := Elt F) (τ := τ) osem c ∗ unscopedSems0 c ∗ dealtTo m c)
      ⊢ |={Set.univ}=> iprop((bigSep Finset.univ fun s : SemLoc sig => iprop(∃ κ : ℕ, cellInv ER (sched m) κ (gcell (c, s))))
          ∗ (bigSep Finset.univ fun s : SemLoc sig => iprop(atPos ER (gcell (c, s)) 0 ∅ 0 ∗ reached ER (gcell (c, s)) 0)) ∗ toks c) := by
  unfold dealtTo
  iintro ⟨Hos, Hus, Hst, Hat, Htok⟩
  ihave Hv := (Entails.of_eq (sems0_eq (F := F) c).symm) $$ [Hos Hus]
  · isplitl [Hus] <;> iassumption
  imod (show iprop((bigSep Finset.univ fun s : SemLoc sig => semVal (gcell (c, s)) 0) ∗ bigSep Finset.univ fun s : SemLoc sig => roundState ER (sched m) (gcell (c, s)) 0)
      ⊢ (|={Set.univ}=> bigSep Finset.univ fun s : SemLoc sig => iprop(∃ κ : ℕ, cellInv ER (sched m) κ (gcell (c, s))) : sProp 𝕄) from by
        rw [← bigSep_sep']
        exact (bigSep_mono fun s _ => (Rounds.body_intro ER (sched m) (gcell (c, s))).trans inv_alloc).trans (bigSep_fupd _ _)) $$ [Hv Hst] with Hinv
  · isplitl [Hv] <;> iassumption
  imodintro
  isplitl [Hinv]; · iexact Hinv
  isplitl [Hat]; · iexact Hat
  iexact Htok

/-- What all devices share of the launch. -/
def records (K : Dev nD × SemLoc sig → ℕ) : sProp 𝕄 :=
  iprop((bigSep Finset.univ fun g : Dev nD × SemLoc sig => cellInv ER (sched m) (K g) (gcell g))
    ∗ bigSep Finset.univ fun g : Dev nD × SemLoc sig => reached ER (gcell g) 0)

instance records_persistent (K : Dev nD × SemLoc sig → ℕ) : BI.Persistent (records m K) := by unfold records; infer_instance

/-- What device `c` has at its own cells, and the tokens it pays. -/
def held (c : Dev nD) : sProp 𝕄 :=
  iprop((bigSep Finset.univ fun s : SemLoc sig => atPos ER (gcell (c, s)) 0 ∅ 0) ∗ payToks c)

/-- The two together. -/
def share (c : Dev nD) : sProp 𝕄 := iprop(∃ K, records m K ∗ held c)

theorem regroup :
    (bigSep Finset.univ fun c : Dev nD => iprop((bigSep Finset.univ fun s : SemLoc sig => iprop(∃ κ : ℕ, cellInv ER (sched m) κ (gcell (c, s))))
          ∗ (bigSep Finset.univ fun s : SemLoc sig => iprop(atPos ER (gcell (c, s)) 0 ∅ 0 ∗ reached ER (gcell (c, s)) 0)) ∗ toks c) : sProp 𝕄)
      ⊢ bigSep Finset.univ (share m) := by
  rw [bigSep_sep', bigSep_sep', ← bigSep_univ_prod (fun g : Dev nD × SemLoc sig => iprop(∃ κ : ℕ, cellInv ER (sched m) κ (gcell g))),
    bigSep_congr (s := Finset.univ) (fun (c : Dev nD) _ => bigSep_sep' Finset.univ (fun s : SemLoc sig => (atPos ER (gcell (c, s)) 0 ∅ 0 : sProp 𝕄)) (fun s => reached ER (gcell (c, s)) 0)),
    bigSep_sep', ← bigSep_univ_prod (fun g : Dev nD × SemLoc sig => (reached ER (gcell g) 0 : sProp 𝕄)), toks_dealt]
  iintro ⟨HI, ⟨Hat, #HR⟩, Htok⟩
  ihave HK := (BI.bigSep_exists_pi Finset.univ (fun (g : Dev nD × SemLoc sig) (κ : ℕ) => (cellInv ER (sched m) κ (gcell g) : sProp 𝕄))) $$ HI
  icases HK with ⟨%K, #HI⟩
  iapply (show iprop(records m K ∗ bigSep Finset.univ fun c : Dev nD => held (F := F) c) ⊢ bigSep Finset.univ (share m) from
    (sep_mono_left (BI.bigSep_of_persistent Finset.univ (records m K))).trans (by
      rw [← bigSep_sep']
      refine bigSep_mono fun c _ => ?_
      show iprop(records m K ∗ held c) ⊢ iprop(∃ K, records m K ∗ held c)
      iintro H
      iexists K; iexact H))
  isplitr
  · unfold records; isplitl; · iexact HI
    iexact HR
  · unfold held
    rw [bigSep_sep']
    isplitl [Hat] <;> iassumption

/-- All cells are opened at once. -/
theorem opened_cells : (bigSep Finset.univ fun c => iprop(Pipeline.ownSems0 (Ix := Unit) (Name := ℕ) (U := UU) (Lvl := ℕ) (Val := Elt F) (τ := τ) osem c ∗ unscopedSems0 c ∗ dealtTo m c) : sProp 𝕄)
    ⊢ |={Set.univ}=> bigSep Finset.univ (share m) :=
  ((bigSep_mono fun c _ => core_alloc m c).trans (bigSep_fupd _ _)).trans (BI.fupd_mono (regroup m))

/-! ## The credit -/

theorem tally_ne (c c' : Dev nD) {u u' : Use} (h : u ≠ u') (n : ℕ) :
    (tallyAt (cell c' u') () n : CellTallies nD τ sig Unit) (cell c u) () = 0 := by
  rw [tallyAt_apply, if_neg fun h' => h (cell_inj h'.1).2]

theorem tally_same (c c' : Dev nD) (u : Use) (n : ℕ) :
    (tallyAt (cell c' u) () n : CellTallies nD τ sig Unit) (cell c u) () = if c = c' then n else 0 := by
  rw [tallyAt_apply]
  by_cases h : c = c'
  · subst h; rw [if_pos ⟨rfl, rfl⟩, if_pos rfl]
  · rw [if_neg fun h' => h (cell_inj h'.1).1, if_neg h]

theorem owed_apply (S : Finset (Fin 128)) (d : Dev nD) (g : GSem nD τ sig) :
    owed S d g () = ∑ k ∈ S, (tallyAt (cell (tgt k d) (.rcv k)) () N : CellTallies nD τ sig Unit) g () := by
  unfold owed; rw [Finset.sum_apply, Finsupp.finset_sum_apply]

/-- Over all devices, one owes a given amount to its partner. -/
theorem one_owes (c : Dev nD) (e : Dev nD → Dev nD) (he : ∀ d, e (e d) = d) (n : ℕ) : (∑ d : Dev nD, if c = e d then n else 0) = n := by
  rw [Finset.sum_congr rfl fun d _ => if_congr (show c = e d ↔ d = e c from ⟨fun h => by rw [h, he], fun h => by rw [h, he]⟩) rfl rfl,
    Finset.sum_ite_eq' Finset.univ (e c) fun _ => n, if_pos (Finset.mem_univ _)]

theorem owed_bar (d c : Dev nD) : O₀ d (cell c .bar) ()
    = (if c = nbr 2 d then 1 else 0) + (if c = nbr 1 d then 1 else 0) + (if c = nbr 0 d then 1 else 0) := by
  unfold O₀
  rw [Pi.add_apply, Finsupp.add_apply, Pi.add_apply, Finsupp.add_apply, Pi.add_apply, Finsupp.add_apply, owed_apply,
    Finset.sum_eq_zero fun k _ => tally_ne c _ (fun h => by cases h) N, tally_same, tally_same, tally_same, Nat.zero_add]

theorem owed_rcv (d c : Dev nD) (k : Fin 128) : O₀ d (cell c (.rcv k)) () = if c = tgt k d then N else 0 := by
  unfold O₀
  rw [Pi.add_apply, Finsupp.add_apply, Pi.add_apply, Finsupp.add_apply, Pi.add_apply, Finsupp.add_apply, owed_apply,
    tally_ne c _ (fun h => by cases h), tally_ne c _ (fun h => by cases h), tally_ne c _ (fun h => by cases h),
    Nat.add_zero,
    Finset.sum_eq_single k (fun k' _ h => tally_ne c _ (fun h' => h (Use.rcv.inj h').symm) N) (fun h => absurd (Finset.mem_univ k) h), tally_same]

theorem launch_bar (c : Dev nD) :
    tallyOn (cell c .bar) (launchCredit (Pipeline.owing O₀) 0 (cell c .bar)) = (tallyAt (cell c .bar) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    one_owes c _ (nbr_nbr 2), one_owes c _ (nbr_nbr 1), one_owes c _ (nbr_nbr 0)]

theorem launch_rcv (c : Dev nD) (k : Fin 128) :
    tallyOn (cell c (.rcv k)) (launchCredit (Pipeline.owing O₀) 0 (cell c (.rcv k))) = (tallyAt (cell c (.rcv k)) () N : CellTallies nD τ sig Unit) := by
  unfold tallyAt; refine congrArg _ (Finsupp.ext fun u => ?_); cases u
  rw [Pipeline.launchCredit_owing, Finsupp.single_eq_same, Finset.sum_congr rfl fun d _ => owed_rcv d c k, one_owes c _ (tgt_tgt k)]

theorem creds (c : Dev nD) :
    (Pipeline.launchCred O₀ c : sProp 𝕄) ⊢ iprop(cred (tallyAt (cell c .bar) () 3)
      ∗ bigSep Finset.univ fun k => cred (tallyAt (cell c (.rcv k)) () N)) := by
  unfold Pipeline.launchCred
  rw [sems_by_use, launch_bar, bigSep_congr fun k _ => congrArg cred (launch_rcv c k)]
  iintro ⟨H, -, H', -, -⟩
  isplitl [H] <;> iassumption

end Cert.KernelIdeal.Run
end
-- ==== Proof.Entry.lean ====
/-
What a device is entered with and what it gives back, in terms of whole buffers and of all its semaphores: the result is
cut into the 16 blocks of the own half and the 128 chunks of the other, the staging buffer into its two blocks; at the
end every cell is closed, which shows its counter to be zero.
-/
module

public import proofs.«01_k».proof.Proof.Ghost

@[expose] public section

noncomputable section

namespace Cert.KernelIdeal.Run

open Cert.KernelIdeal Cert.KernelIdeal.Gen
open Idealize.ShloMosaic Idealize.ShloMosaic.TcCoe Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## The buffers, whole and in parts -/

/-- Device `c`'s result, at contents `f`. -/
abbrev outPts (c : Dev nD) (f : Buf (Elt F) ((c : Thread nD τ).loc main_v1)) : sProp 𝕄 :=
  ((c : Thread nD τ).loc main_v1) ↦{fullShare} f
/-- Device `c`'s staging buffer, at some contents. -/
abbrev staging (c : Dev nD) : sProp 𝕄 :=
  iprop(∃ f : Buf (Elt F) ((c : Thread nD τ).loc cc0_scratch0), ((c : Thread nD τ).loc cc0_scratch0) ↦{fullShare} f)

/-- The result is the room for its blocks and its chunks. -/
theorem out_parts (c : Dev nD) (f : Buf (Elt F) ((c : Thread nD τ).loc main_v1)) :
    outPts c f ⊢ iprop((bigSep Finset.univ fun k => blockRoom (F := F) c k) ∗ bigSep Finset.univ fun k => room (F := F) c (blk c k)) := by
  rw [outPts, Ring.pointsTo_blocks (ℓ := (c : Thread nD τ).loc main_v1) (part c) (part_disjoint c) (part_cover c) f, bigSep_univ_sum]
  refine BI.sep_mono (bigSep_mono fun k _ => ?_) (bigSep_mono fun k _ => ?_)
  · show (((c : Thread nD τ).loc main_v1) ↦[part c (.inl k)]{fullShare} f : sProp 𝕄) ⊢ blockRoom c k
    unfold blockRoom; iintro H; iexists f; iexact H
  · show (((c : Thread nD τ).loc main_v1) ↦[part c (.inr k)]{fullShare} f : sProp 𝕄) ⊢ room c (blk c k)
    unfold room; iintro H; iexists f; iexact H

/-- The place of staging block `s` in the staging buffer. -/
abbrev slotSet (s : Fin 2) : Finset S2x1024x1024.Idx := (slot s).view.set

/-- An index of the staging buffer lies in the staging block that its first coordinate names. -/
theorem mem_slot (s : Fin 2) (i : S2x1024x1024.Idx) : i ∈ slotSet s ↔ (i 0).val = s.val := by
  have e : (slot s).view.set = ((View.whole cc0_scratch0).slice (Rect.unit (s := S2x1024x1024) ![s.val, 0, 0] S1x1024x1024.size (slot_inb s))).set :=
    View.set_reshape _ _
  rw [slotSet, e]
  refine mem_set_slice_whole_iff cc0_scratch0 _ i (Rect.mem_set_unit.trans ?_)
  have h1 : (i 1).val < 1024 := (i 1).isLt
  have h2 : (i 2).val < 1024 := (i 2).isLt
  constructor
  · intro h
    have h0 : s.val ≤ (i 0).val ∧ (i 0).val < s.val + 1 := h 0
    omega
  · intro h a
    match a with
    | 0 => show s.val ≤ (i 0).val ∧ (i 0).val < s.val + 1; omega
    | 1 => show 0 ≤ (i 1).val ∧ (i 1).val < 0 + 1024; omega
    | 2 => show 0 ≤ (i 2).val ∧ (i 2).val < 0 + 1024; omega

theorem slot_disjoint (s s' : Fin 2) (h : s ≠ s') : Disjoint (slotSet s) (slotSet s') :=
  Finset.disjoint_left.mpr fun i hi hi' => h (Fin.ext (((mem_slot s i).mp hi).symm.trans ((mem_slot s' i).mp hi')))

theorem slot_cover : (Finset.univ.biUnion slotSet) = Finset.univ :=
  Finset.eq_univ_iff_forall.mpr fun i => Finset.mem_biUnion.mpr ⟨⟨(i 0).val, (i 0).isLt⟩, Finset.mem_univ _, (mem_slot _ i).mpr rfl⟩

theorem two (Φ : Fin 2 → sProp 𝕄) : bigSep Finset.univ Φ = iprop(Φ 0 ∗ Φ 1) :=
  bigSep_univ_eq_bigSepL [0, 1] (by decide) (by decide) Φ

/-- The staging buffer is its two blocks. -/
theorem staging_parts (c : Dev nD) : staging (F := F) c ⊢ iprop(slotRoom (F := F) c 0 ∗ slotRoom (F := F) c 1) := by
  rw [← two fun s => slotRoom (F := F) c s]
  iintro ⟨%f, H⟩
  ihave H' := (Entails.of_eq (Ring.pointsTo_blocks (ℓ := (c : Thread nD τ).loc cc0_scratch0) slotSet slot_disjoint slot_cover f)) $$ H
  iapply (show (bigSep Finset.univ fun s : Fin 2 => (((c : Thread nD τ).loc cc0_scratch0) ↦[slotSet s]{fullShare} f : sProp 𝕄))
      ⊢ bigSep Finset.univ fun s => slotRoom (F := F) c s from bigSep_mono fun s _ => by
    show (((c : Thread nD τ).loc cc0_scratch0) ↦[slotSet s]{fullShare} f : sProp 𝕄) ⊢ slotRoom (F := F) c s
    unfold slotRoom; iintro H; iexists f; iexact H)
  iexact H'

include m in
/-- The two blocks are the staging buffer. -/
theorem staging_join (c : Dev nD) : iprop(slotRoom (F := F) c 0 ∗ slotRoom (F := F) c 1) ⊢ staging (F := F) c := by
  rw [← two fun s => slotRoom (F := F) c s]
  unfold slotRoom
  exact Ring.pointsTo_blocks_join_exists (ℓ := (c : Thread nD τ).loc cc0_scratch0) slotSet slot_disjoint slot_cover
    (m ((c : Thread nD τ).loc cc0_scratch0))

/-! ## The start -/

/-- Device `c`'s block of `x`, as it was launched. -/
abbrev xPts (c : Dev nD) : sProp 𝕄 := ((c : Thread nD τ).loc main_arg0) ↦{fullShare} m ((c : Thread nD τ).loc main_arg0)

/-- What device `c` has from the launch, the staging buffer apart. -/
def start (c : Dev nD) : sProp 𝕄 :=
  iprop(∃ K, ctx m K ∗ held (F := F) c ∗ (cred (tallyAt (cell c .bar) () 3) ∗ bigSep Finset.univ fun k => cred (tallyAt (cell c (.rcv k)) () N))
    ∗ xPts m c ∗ outPts c (m ((c : Thread nD τ).loc main_v1)))

theorem entry (c : Dev nD) :
    iprop(ctx m K ∗ held (F := F) c ∗ (cred (tallyAt (cell c .bar) () 3) ∗ bigSep Finset.univ fun k => cred (tallyAt (cell c (.rcv k)) () N))
      ∗ xPts m c ∗ outPts c (m ((c : Thread nD τ).loc main_v1)) ∗ staging (F := F) c) ⊢ before m c := by
  have hplan : iprop((bigSep Finset.univ fun k : Fin 16 => dutyTok ER (cell c (.ins (par k))) (k.val / 2) 0)
      ∗ (bigSep Finset.univ fun k : Fin 16 => dutyTok ER (cell c (.outs (par k))) (k.val / 2) 0)
      ∗ bigSep Finset.univ fun k => blockRoom (F := F) c k) ⊢ bigSep Finset.univ fun k => plan (F := F) c k := by
    unfold plan; simp only [bigSep_sep']; exact Entails.rfl
  have htick : iprop((bigSep Finset.univ fun k => atPos ER (cell c (.snd k)) 0 ∅ 0) ∗ (bigSep Finset.univ fun k => dutyTok ER (cell c (.snd k)) 0 0)
      ∗ bigSep Finset.univ fun k => dutyTok ER (cell (tgt k c) (.rcv k)) 0 0) ⊢ tickets (F := F) c := by
    unfold tickets; simp only [bigSep_sep']; exact Entails.rfl
  have hdue : iprop((bigSep Finset.univ fun k => atPos ER (cell c (.rcv k)) 0 ∅ 0) ∗ bigSep Finset.univ fun k => cred (tallyAt (cell c (.rcv k)) () N))
      ⊢ due (F := F) c Finset.univ := by
    unfold due; simp only [bigSep_sep']; exact Entails.rfl
  unfold held payToks before
  rw [sems_by_use, two, two]
  iintro ⟨#HC, ⟨⟨Hb, Hs, Hr, ⟨Hi0, Hi1⟩, ⟨Ho0, Ho1⟩⟩, Tb, Ts, Tr, Ti, To⟩, ⟨Cb, Cr⟩, Hx, Hout, Hst⟩
  ihave Hout := (out_parts c _) $$ Hout
  icases Hout with ⟨Hblocks, Hroom⟩
  ihave Hst := (staging_parts c) $$ Hst
  icases Hst with ⟨Hs0, Hs1⟩
  isplitl [Tb]; · iexact Tb
  isplitl [Hroom]; · iexact Hroom
  isplitl [Cb]; · iexact Cb
  isplitl [Hb]; · iexact Hb
  isplitl [Hx]
  · unfold xs; iexists fullShare; iexact Hx
  isplitl [Hs Ts Tr]
  · iapply htick
    isplitl [Hs]; · iexact Hs
    isplitl [Ts] <;> iassumption
  isplitl [Hr Cr]
  · iapply hdue
    isplitl [Hr] <;> iassumption
  isplitl [Hi0 Ho0 Hs0]
  · unfold spare
    isplitl [Hi0]; · iexact Hi0
    isplitr; · iapply (ctx_reached m K c (.ins 0)); iexact HC
    isplitl [Ho0]; · iexact Ho0
    isplitr; · iapply (ctx_reached m K c (.outs 0)); iexact HC
    iexact Hs0
  isplitl [Hi1 Ho1 Hs1]
  · unfold spare
    isplitl [Hi1]; · iexact Hi1
    isplitr; · iapply (ctx_reached m K c (.ins 1)); iexact HC
    isplitl [Ho1]; · iexact Ho1
    isplitr; · iapply (ctx_reached m K c (.outs 1)); iexact HC
    iexact Hs1
  iapply hplan
  isplitl [Ti]; · iexact Ti
  isplitl [To] <;> iassumption

/-! ## The end -/

/-- A cell past its last round is closed: its counter is zero. -/
theorem closed (c : Dev nD) (u : Use) : iprop(ctx m K ∗ atPos ER (cell c u) (rounds u) ∅ 0) ⊢ |={Set.univ}=> (semVal (cell c u) 0 : sProp 𝕄) :=
  (sep_mono_left (ctx_inv m K c u)).trans
    (Rounds.cell_close ER (sched m) (Set.mem_univ (K (c, semOf u))) (fun h => h) (R := rounds u) fun r hr => duties_end m c u r hr)

/-- A family of them likewise. -/
theorem closed_all (c : Dev nD) {α : Type} [Fintype α] [DecidableEq α] (u : α → Use) (R : ℕ) (hR : ∀ i, rounds (u i) = R) :
    iprop(ctx m K ∗ bigSep Finset.univ fun i => atPos ER (cell c (u i)) R ∅ 0)
      ⊢ |={Set.univ}=> (bigSep Finset.univ fun i => semVal (cell c (u i)) 0 : sProp 𝕄) :=
  (sep_mono_left (BI.bigSep_of_persistent Finset.univ (ctx m K))).trans (by
    rw [← bigSep_sep']
    exact (bigSep_mono fun i _ => by rw [← hR i]; exact closed m K c (u i)).trans (bigSep_fupd _ _))

/-- What device `c`'s arrays hold at the end. -/
def result (c : Dev nD) : sProp 𝕄 :=
  iprop(xs m c ∗ (bigSep Finset.univ fun k => iprop(∃ q, chunk m c (blk c k) q)) ∗ bigSep Finset.univ fun k => block m c k)

/-- What it gives back: all its semaphores at zero, the staging buffer, and its arrays. -/
def finish (c : Dev nD) : sProp 𝕄 :=
  iprop((bigSep Finset.univ fun s : SemLoc sig => semVal (gcell (c, s)) 0) ∗ staging (F := F) c ∗ result m c)

theorem leave_all (c : Dev nD) : iprop(ctx m K ∗ after m c) ⊢ |={Set.univ}=> finish m c := by
  have hcome : come m c Finset.univ ⊢ iprop((bigSep Finset.univ fun k => atPos ER (cell c (.rcv k)) 1 ∅ 0)
      ∗ bigSep Finset.univ fun k => iprop(∃ q, chunk m c (blk c k) q)) := by
    unfold come; rw [bigSep_sep']
  unfold after spare away
  iintro ⟨#HC, Hb, Hx, Hs, Hr, ⟨Hi0, -, Ho0, -, Hs0⟩, ⟨Hi1, -, Ho1, -, Hs1⟩, Hbl⟩
  ihave Hr := hcome $$ Hr
  icases Hr with ⟨Hr, Hch⟩
  imod (closed m K c .bar) $$ [Hb] with Hb
  · isplitr; · iexact HC
    iexact Hb
  imod (closed_all m K c Use.snd 1 fun _ => rfl) $$ [Hs] with Hs
  · isplitr; · iexact HC
    iexact Hs
  imod (closed_all m K c Use.rcv 1 fun _ => rfl) $$ [Hr] with Hr
  · isplitr; · iexact HC
    iexact Hr
  imod (closed_all m K c Use.ins 8 fun _ => rfl) $$ [Hi0 Hi1] with Hi
  · isplitr; · iexact HC
    rw [two]; isplitl [Hi0] <;> iassumption
  imod (closed_all m K c Use.outs 8 fun _ => rfl) $$ [Ho0 Ho1] with Ho
  · isplitr; · iexact HC
    rw [two]; isplitl [Ho0] <;> iassumption
  imodintro
  unfold finish result
  isplitl [Hb Hs Hr Hi Ho]
  · rw [sems_by_use]
    isplitl [Hb]; · iexact Hb
    isplitl [Hs]; · iexact Hs
    isplitl [Hr]; · iexact Hr
    isplitl [Hi] <;> iassumption
  isplitl [Hs0 Hs1]
  · iapply (staging_join m c); isplitl [Hs0] <;> iassumption
  isplitl [Hx]; · iexact Hx
  isplitl [Hch] <;> iassumption

end Cert.KernelIdeal.Run
end
-- ==== Proof.Launch.lean ====
/-
The run of the whole program: from any memory, over any float values, on all eight devices. Every run ends without a
fault, with each device's block of `x` as it was, its result at `fin`, and every semaphore at zero.
-/
module

public import proofs.«01_k».proof.Proof.Entry
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Reading the memory at the end -/

/-- What a device holds of the arrays says what the memory holds. -/
theorem result_read (c : Dev nD) (s' : Phys nD τ sig (Elt F)) :
    iprop(result m c ∗ SI s') ⊢ (⌜s'.mem.mem ((c : Thread nD τ).loc main_arg0) = m ((c : Thread nD τ).loc main_arg0)
      ∧ s'.mem.mem ((c : Thread nD τ).loc main_v1) = fin m c⌝ : sProp 𝕄) := by
  have hx : iprop(xs m c ∗ SI s') ⊢ (⌜s'.mem.mem ((c : Thread nD τ).loc main_arg0) = m ((c : Thread nD τ).loc main_arg0)⌝ : sProp 𝕄) := by
    unfold xs
    iintro ⟨⟨%q, H⟩, HS⟩
    ihave %h := (SI_pointsTo_agree (st := s') (ℓ := xM.view.loc (c : Thread nD τ)) (I := Finset.univ) (q := q) (f := xOf m c)) $$ [HS H]
    · isplitl [HS] <;> iassumption
    ipureintro
    exact funext fun i => h i (Finset.mem_univ i)
  have hc : iprop((bigSep Finset.univ fun k => iprop(∃ q, chunk m c (blk c k) q)) ∗ SI s')
      ⊢ (⌜∀ k, ∀ i ∈ part c (.inr k), s'.mem.mem ((c : Thread nD τ).loc main_v1) i = fin m c i⌝ : sProp 𝕄) :=
    (forall_intro fun k => (sep_mono_left (family_elim (Finset.mem_univ k) _)).trans (by
      unfold chunk
      iintro ⟨⟨%q, H⟩, HS⟩
      ihave %h := (SI_pointsTo_agree (st := s') (ℓ := (oC (blk c k)).view.loc (c : Thread nD τ)) (I := (oC (blk c k)).view.set) (q := q) (f := fin m c)) $$ [HS H]
      · isplitl [HS] <;> iassumption
      ipureintro
      exact h)).trans pure_forall.2
  have hb : iprop((bigSep Finset.univ fun k => block m c k) ∗ SI s')
      ⊢ (⌜∀ k, ∀ i ∈ part c (.inl k), s'.mem.mem ((c : Thread nD τ).loc main_v1) i = fin m c i⌝ : sProp 𝕄) :=
    (forall_intro fun k => (sep_mono_left (family_elim (Finset.mem_univ k) _)).trans (by
      unfold block
      iintro ⟨H, HS⟩
      ihave %h := (SI_pointsTo_agree (st := s') (ℓ := (oB (own c k)).view.loc (c : Thread nD τ)) (I := (oB (own c k)).view.set) (q := fullShare) (f := fin m c)) $$ [HS H]
      · isplitl [HS] <;> iassumption
      ipureintro
      exact h)).trans pure_forall.2
  unfold result
  iintro ⟨⟨Hx, Hc, Hb⟩, HS⟩
  ihave %h1 := hx $$ [Hx HS]
  · isplitl [Hx] <;> iassumption
  ihave %h2 := hc $$ [Hc HS]
  · isplitl [Hc] <;> iassumption
  ihave %h3 := hb $$ [Hb HS]
  · isplitl [Hb] <;> iassumption
  ipureintro
  refine ⟨h1, funext fun i => ?_⟩
  have hi := (mem_part c i (partOf c i)).mpr rfl
  generalize partOf c i = t at hi
  match t with
  | .inl k => exact h3 k i hi
  | .inr k => exact h2 k i hi

/-! ## The body -/

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => iprop(start m c ∗ staging c)
    | ⟨_ + 1, _⟩ => finish m c
  q _ := fullShare
  owed t := match t with
    | ⟨0, _⟩ => O₀ c
    | ⟨_ + 1, _⟩ => 0

/-- What is reached by an update after the end is reached at the end. -/
theorem wp_then (c : Dev nD) (p : P F) (Q : PUnit → sProp 𝕄) : WP c p (fun a => iprop(|={Set.univ}=> Q a)) ⊢ WP c p Q :=
  wp_fupd _ _ _ _ _

/-- The body takes what a device is launched with to what it gives back. -/
theorem body_sound (c : Dev nD) (W₀ : Finset (SemLoc sig × Unit)) :
    iprop((start m c ∗ staging c) ∗ owes (c : Thread nD τ) (O₀ c) W₀)
      ⊢ WP (F := F) c whole fun _ => iprop(finish m c ∗ ∃ W, owes (c : Thread nD τ) 0 W) := by
  unfold start
  rw [show whole (F := F) = .op .deviceId fun d => body d from rfl, WP, wp_deviceId]
  iintro ⟨⟨⟨%K, #HC, Hh, Hcr, Hx, Hout⟩, Hst⟩, HO⟩
  ihave Hb := (entry m K c) $$ [Hh Hcr Hx Hout Hst]
  · isplitr; · iexact HC
    isplitl [Hh]; · iexact Hh
    isplitl [Hcr]; · iexact Hcr
    isplitl [Hx]; · iexact Hx
    isplitl [Hout] <;> iassumption
  iapply (wp_then c (body c) fun _ => iprop(finish m c ∗ ∃ W, owes (c : Thread nD τ) 0 W))
  iapply (body_runs m K c fun _ => iprop(|={Set.univ}=> (finish m c ∗ ∃ W, owes (c : Thread nD τ) 0 W))) $$ [Hb HO]
  · isplitr; · iexact HC
    isplitl [Hb]; · iexact Hb
    iexists W₀; iexact HO
  iintro ⟨HO, Ha⟩
  imod (leave_all m K c) $$ [Ha] with H
  · isplitr; · iexact HC
    iexact Ha
  imodintro
  isplitl [H]; · iexact H
  unfold ows
  rw [owed_empty]
  iexact HO

set_option maxRecDepth 8000 in
/-- The body's obligation to the launch. -/
theorem body_obligation (c : Dev nD) : BodyObligation (dats (F := F) m ρ 0 c) (defs₀ (F := F)) 𝒱₀ () Set.univ := fun t => by
  rw [fin_N0 t]
  have e : defs₀ (F := F) .tc cfg0.body (cfg0.bodyArgs t0_0 (cfg0.slots t0_0)) = bodyAt0 t0_0 := rfl
  rw [e, body_eq]
  have hW (Φ : Fin cfg0.W → sProp 𝕄) : bigSep Finset.univ Φ = BI.emp :=
    (congrArg (fun S => bigSep S Φ) (Finset.eq_empty_iff_forall_notMem.mpr fun w _ => w.elim0)).trans bigSep_empty
  rw [hW, hW]
  unfold Dat.owesAt Pipeline.owesWithin
  rw [show (dats m ρ 0 c).Φ t0_0.castSucc = iprop(start m c ∗ staging c) from rfl, show (dats m ρ 0 c).Φ t0_0.succ = finish m c from rfl,
    show (dats m ρ 0 c).owed t0_0.castSucc = O₀ c from rfl, show (dats m ρ 0 c).owed t0_0.succ = 0 from rfl]
  iintro ⟨H, ⟨%W, -, HO⟩, -⟩
  ihave HW := (body_sound m c W) $$ [H HO]
  · isplitl [H] <;> iassumption
  iapply (wp_mono _ _ _ fun _ => ?_)
  rotate_left
  · iexact HW
  iintro ⟨H, ⟨%W, HO⟩⟩
  isplitl [H]; · iexact H
  isplitl [HO]
  · iexists W
    isplitr; · ipureintro; exact fun _ _ => Or.inl trivial
    iexact HO
  iempintro

/-! ## The launch -/

theorem ownSemFacts : Pipeline.OwnSemFacts cfg0.spec osem :=
  ⟨by decide +kernel, fun _ _ h => SemLoc.dma.inj h, fun _ w _ => w.elim0⟩

theorem share_eq (c : Dev nD) (w : Fin cfg0.W) : (dats m ρ 0 c).share w = fullShare := w.elim0

theorem waits (c : Dev nD) : (levAts L lv : sProp 𝕄) ⊢ Pipeline.cellsWaits cfgs (dats m ρ) () 0 c :=
  Pipeline.cellsWaits_intro cfgs (dats m ρ) () 0 c fun w _ _ => w.elim0

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c)
      ⊢ |={Set.univ}=> iprop(start m c ∗ emp) := by
  rw [Pipeline.unscopedRestP_none, unscopedRest0_eq]
  unfold share start records ctx
  iintro ⟨⟨Hx, Hout⟩, Hlev, Hcr, -, ⟨%K, ⟨⟨HI, HR⟩, Hh⟩⟩⟩
  ihave Hc := (creds (F := F) c) $$ Hcr
  imodintro
  isplitl
  · iexists K
    isplitl [HI HR Hlev]
    · isplitl [HI]; · iexact HI
      isplitl [HR] <;> iassumption
    isplitl [Hh]; · iexact Hh
    isplitl [Hc]; · iexact Hc
    isplitl [Hx] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ staging c) from rfl, scopedRest0_eq]
  iintro ⟨Hs, -, H⟩
  isplitl [Hs] <;> iassumption

theorem exit (c : Dev nD) :
    (dats m ρ 0 c).Φ (Fin.last cfg0.N) ⊢ iprop((unscopedSems0 c ∗ result m c) ∗ Pipeline.ownSems0 osem c ∗ Pipeline.scopedRest cfg0.spec c) := by
  rw [show (dats m ρ 0 c).Φ (Fin.last cfg0.N) = finish m c from rfl, scopedRest0_eq]
  unfold finish
  rw [sems0_eq]
  iintro ⟨⟨Hu, Ho⟩, Hst, Hr⟩
  isplitl [Hu Hr]
  · isplitl [Hu] <;> iassumption
  isplitl [Ho] <;> iassumption

/-- What the run ends with. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_v1) = fin m c) ∧ r.2.sem = fun _ => 0

set_option maxRecDepth 100000 in
/-- From any memory with all semaphores at zero, every run of the program on the eight devices ends, without a fault,
    with each device's block of `x` unchanged, its result at `fin` and every semaphore at zero. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealtTo m) (G' := share m) (u₀ := u₀)
    (hu₀ := by
      unfold u₀
      iintro Hu
      ihave H := (ownU_pair _ _) $$ Hu
      icases H with ⟨HP, HX⟩
      imod (funded m) $$ HX with HG
      imodintro
      isplitl [HP] <;> iassumption)
    (hglob := opened_cells m)
    (hA := fun _ _ => rfl) (hpf := fun _ k => k.elim0)
    (X := start m) (Y := fun c => iprop(unscopedSems0 c ∗ result m c)) (Z := fun _ => iprop(emp))
    (hX := start_intro m ρ) (hin := enter m ρ) (hout := exit m ρ)
    (QY := fun c s => (s.mem ((c : Thread nD τ).loc main_arg0) = m ((c : Thread nD τ).loc main_arg0)
        ∧ s.mem ((c : Thread nD τ).loc main_v1) = fin m c)
      ∧ ∀ sm : SemLoc sig, sm.isScoped .tc = false → s.sem ((c.tc : Thread nD τ), sm) = 0)
    (hY := fun c s' => by
      iintro ⟨⟨Hu, Hr⟩, -, HSI⟩
      ihave %h := (result_read m c s') $$ [Hr HSI]
      · isplitl [Hr] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun _ h hs => ⟨fun c => (h c).2.2.1, sem_eq_zero hs fun c => (h c).2.2.2⟩)

end Cert.KernelIdeal.Run
end
-- ==== Proof.Value.lean ====
/-
The value: when each device's block of `x` is its half of one whole array, the result on every device is that array.
And the run of the reference, which returns its argument as it is.
-/
module

public import proofs.«01_k».proof.Proof.Launch
public import proofs.«01_k».proof.ReferenceIdeal
public import Idealize.ShloMosaic.Lib.Layout
public import Idealize.ShloMosaic.Lib.StableHlo.RunHlo

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-- Every chunk comes from a device that holds the half of the whole array the chunk lies in. -/
theorem org_half (c : Dev nD) (b : Fin 256) : (org c b).val / 2 % 2 = b.val / 128 := by
  revert c b; decide +kernel

/-- Device `d` holds the upper or the lower half of the rows, by its coordinate along the mesh's second axis. -/
theorem rows_of (d : Dev nD) : ((Layout.meshBlock [2, 2, 2] ![[1], []] d) (0 : Fin 2)).val = d.val / 2 % 2 := by
  revert d; decide
/-- It holds all the columns. -/
theorem columns_of (d : Dev nD) : ((Layout.meshBlock [2, 2, 2] ![[1], []] d) (1 : Fin 2)).val = 0 := by
  revert d; decide

/-- With each device's block of `x` cut from `v`, every device's result is `v`. -/
theorem fin_whole (m : (ℓ : Loc nD τ sig) → Buf (Elt F) ℓ) (v : S32768x1024.Idx → Elt F .f32)
    (h : ∀ d : Dev nD, xOf m d = Layout.blockN ⟨2, ![16384, 1024]⟩ ⟨2, ![32768, 1024]⟩ (Layout.meshBlock [2, 2, 2] ![[1], []] d) v)
    (c : Dev nD) : fin m c = v := by
  funext i
  refine (congrFun (h (org c (chunkOf i))) (xIdx i)).trans ?_
  refine congrArg v (funext fun a => Fin.ext ?_)
  have ho := org_half c (chunkOf i)
  have h0 := rows_of (org c (chunkOf i))
  have h1 := columns_of (org c (chunkOf i))
  refine (Layout.TilesN.idx_val _ _ _ a).trans ?_
  fin_cases a
  · have hi : (i 0).val < 32768 := (i 0).isLt
    have hc : (chunkOf i).val = (i 0).val / 128 := rfl
    have hm : (org c (chunkOf i)).val / 2 % 2 * 16384 + (i 0).val % 16384 = (i 0).val := by omega
    exact (congrArg (· * 16384 + (i 0).val % 16384) h0).trans hm
  · exact (congrArg (· * 1024 + (i 1).val) h1).trans (show 0 * 1024 + (i 1).val = (i 1).val by omega)

end Cert.KernelIdeal.Run

namespace Cert.ReferenceIdeal.Run

open Cert.ReferenceIdeal
open Idealize.ShloMosaic Idealize.ShloMosaic.TcCoe
open Idealize.SL.Sem

variable {F : FTy → Type} [FloatOps F] [Facts]

/-- The reference has no operation: it ends with its argument as it was, and it has no semaphore. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun r h => ⟨fun c => h c main_arg0, sem_eq_zero_of_no_sems (by decide) r.2⟩)
    (StableHlo.run_hlo defs main (ops := []) (fun _ => StableHlo.IsSeq.nil) (by decide) (by decide) trivial
      (fun _ h => absurd h List.not_mem_nil) m ρ)

end Cert.ReferenceIdeal.Run

end
-- ==== Proof.lean ====
/-
The five claims about the all-gather kernel: the printed program and its ideal reading run on every memory, keep their
argument and leave every semaphore at zero; so does the reference; the ideal reading is the printed program's; and from
the halves of one whole array every device ends with that array, which is what the reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The printed program runs from every memory, keeps each device's block of `x`, and leaves every semaphore at zero. The
    ideal reading has the same text, so the run proved of that text over any float values is this one at the machine's. -/
theorem frame_kernel : Cert.quiescent_Kernel (hKernel := Cert.Kernel.Gen.facts) := fun m ρ _ =>
  (θ_run Cert.KernelIdeal.defs _ _).mono (fun _ h => ⟨fun c => (h.1 c).1, h.2⟩) (Cert.KernelIdeal.Run.run_main (F := Bits) m ρ)

/-- The same of the ideal reading. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (Cert.KernelIdeal.Run.run_main (F := Ideal) m ρ)

/-- The same of the reference, which has no operation. -/
theorem frame_referenceIdeal : Cert.quiescent_ReferenceIdeal (hReferenceIdeal := Cert.ReferenceIdeal.Gen.facts) := fun m ρ _ =>
  letI := Cert.ReferenceIdeal.Gen.facts
  Cert.ReferenceIdeal.Run.run_main (F := Ideal) m ρ

/-- From the halves of one whole array, every device's result ends as that array, and so does the reference's. -/
theorem algebraic_kernelIdeal : Cert.algebraic_KernelIdeal_ReferenceIdeal (hKernelIdeal := Cert.KernelIdeal.Gen.facts)
    (hReferenceIdeal := Cert.ReferenceIdeal.Gen.facts) := fun m g m' g' _ h =>
  letI := Cert.ReferenceIdeal.Gen.facts
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ r c => ⟨(r.1 c).2.trans (Cert.KernelIdeal.Run.fin_whole m _ h c), (r.1 c).1⟩)
      (Cert.KernelIdeal.Run.run_main (F := Ideal) m g),
    (θ_run Cert.ReferenceIdeal.defs _ _).mono (fun _ r => ⟨r.1 0, r.1 0⟩)
      (Cert.ReferenceIdeal.Run.run_main (F := Ideal) m' g')⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, algebraic_kernelIdeal⟩

end Cert.Proof

end
